-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  IdealRules.named_const.Statement Cert.KernelIdeal.κ "log2e_sm" .f32 0x3E0293EE#32 (((Real.sqrt 128)⁻¹ * (Real.log 2)⁻¹ : ℝ) : EReal)

def preserves_Reference_ReferenceIdeal : Prop :=
  IdealRules.named_const.Statement Cert.ReferenceIdeal.κ "sm_scale" .f32 0x3DB504F3#32 (((Real.sqrt 128)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ preserves_Kernel_KernelIdeal
    ∧ preserves_Reference_ReferenceIdeal
    ∧ algebraic_KernelIdeal_ReferenceIdeal_pre_in_range (hKernelIdeal := hKernelIdeal) (hReferenceIdeal := hReferenceIdeal) (hPre_in_range := hPre_in_range)
-- ==== Pre_in_range.lean ====
abbrev S4x16384x1024 : Shape := ⟨3, ![4, 16384, 1024]⟩
abbrev S4x128x16384 : Shape := ⟨3, ![4, 128, 16384]⟩
abbrev S4x1x16384 : Shape := ⟨3, ![4, 1, 16384]⟩
abbrev S4x16384x128 : Shape := ⟨3, ![4, 16384, 128]⟩
abbrev S4x1x128 : Shape := ⟨3, ![4, 1, 128]⟩
abbrev S_ : Shape := ⟨0, ![]⟩

class Facts : Prop where
  bcast_S_S4x16384x1024 : S_.BroadcastsInDim S4x16384x1024 (![] : Fin 0 → Fin S4x16384x1024.rank)
  reducesTo_S4x16384x1024_S_d0_1_2 : S4x16384x1024.ReducesTo [0, 1, 2] S_
  h_S_ : 0 < S_.numel
  bcast_S_S4x1x16384 : S_.BroadcastsInDim S4x1x16384 (![] : Fin 0 → Fin S4x1x16384.rank)
  reducesTo_S4x1x16384_S_d0_1_2 : S4x1x16384.ReducesTo [0, 1, 2] S_

variable [Facts]

def fn {F : FTy → Type} [FloatOps F] (main_arg0 : FVec F S4x16384x1024 .bf16) (main_arg1 : FVec F S4x128x16384 .fp8e4m3) (main_arg2 : FVec F S4x1x16384 .f32) (main_arg3 : FVec F S4x16384x128 .fp8e4m3) (main_arg4 : FVec F S4x1x128 .f32) : IVec S_ 1 :=
  let main_v0 : FVec F S4x16384x1024 .bf16 := Host.absf main_arg0
  let main_cst : FVec F S_ .bf16 := constant S_ .bf16 0x7F7F#16
  let main_v1 : FVec F S4x16384x1024 .bf16 := broadcastInDim S4x16384x1024 ![] bcast_S_S4x16384x1024 main_cst
  let main_v2 : IVec S4x16384x1024 1 := cmpf .ole main_v0 main_v1
  let main_c : IVec S_ 1 := constantI S_ 1 1#1
  let main_v3 : IVec S_ 1 := (fun x v => Host.reduce IntOp.andi x v reducesTo_S4x16384x1024_S_d0_1_2 h_S_) main_v2 main_c
  let main_cst_0 : FVec F S_ .f32 := constant S_ .f32 0x00000000#32
  let main_v4 : FVec F S4x1x16384 .f32 := broadcastInDim S4x1x16384 ![] bcast_S_S4x1x16384 main_cst_0
  let main_v5 : IVec S4x1x16384 1 := cmpf .oge main_arg2 main_v4
  let main_c_1 : IVec S_ 1 := constantI S_ 1 1#1
  let main_v6 : IVec S_ 1 := (fun x v => Host.reduce IntOp.andi x v reducesTo_S4x1x16384_S_d0_1_2 h_S_) main_v5 main_c_1
  let main_v7 : IVec S_ 1 := andi main_v3 main_v6
  let main_cst_2 : FVec F S_ .f32 := constant S_ .f32 0x7F800000#32
  let main_v8 : FVec F S4x1x16384 .f32 := broadcastInDim S4x1x16384 ![] bcast_S_S4x1x16384 main_cst_2
  let main_v9 : IVec S4x1x16384 1 := cmpf .olt main_arg2 main_v8
  let main_c_3 : IVec S_ 1 := constantI S_ 1 1#1
  let main_v10 : IVec S_ 1 := (fun x v => Host.reduce IntOp.andi x v reducesTo_S4x1x16384_S_d0_1_2 h_S_) main_v9 main_c_3
  let main_v11 : IVec S_ 1 := andi main_v7 main_v10
  main_v11
-- ==== Kernel.lean ====
abbrev S4x16384x1024 : Shape := ⟨3, ![4, 16384, 1024]⟩
abbrev S4x128x16384 : Shape := ⟨3, ![4, 128, 16384]⟩
abbrev S4x1x16384 : Shape := ⟨3, ![4, 1, 16384]⟩
abbrev S4x16384x128 : Shape := ⟨3, ![4, 16384, 128]⟩
abbrev S4x1x128 : Shape := ⟨3, ![4, 1, 128]⟩
abbrev S4x128x8x128 : Shape := ⟨4, ![4, 128, 8, 128]⟩
abbrev S1x128x1024 : Shape := ⟨3, ![1, 128, 1024]⟩
abbrev S1x128x16384 : Shape := ⟨3, ![1, 128, 16384]⟩
abbrev S1x1x16384 : Shape := ⟨3, ![1, 1, 16384]⟩
abbrev S1x16384x128 : Shape := ⟨3, ![1, 16384, 128]⟩
abbrev S1x1x128 : Shape := ⟨3, ![1, 1, 128]⟩
abbrev S1x1x8x128 : Shape := ⟨4, ![1, 1, 8, 128]⟩
abbrev S8x128x1664 : Shape := ⟨3, ![8, 128, 1664]⟩
abbrev S8x1664 : Shape := ⟨2, ![8, 1664]⟩
abbrev S1x128x1664 : Shape := ⟨3, ![1, 128, 1664]⟩
abbrev S128x1664 : Shape := ⟨2, ![128, 1664]⟩
abbrev S1x1x1664 : Shape := ⟨3, ![1, 1, 1664]⟩
abbrev S1x1664 : Shape := ⟨2, ![1, 1664]⟩
abbrev S1x128 : Shape := ⟨2, ![1, 128]⟩
abbrev S128x1024 : Shape := ⟨2, ![128, 1024]⟩
abbrev S1024 : Shape := ⟨1, ![1024]⟩
abbrev S1x1024 : Shape := ⟨2, ![1, 1024]⟩
abbrev S8x128 : Shape := ⟨2, ![8, 128]⟩
abbrev S128x128 : Shape := ⟨2, ![128, 128]⟩
abbrev S1x128x128 : Shape := ⟨3, ![1, 128, 128]⟩
abbrev S128 : Shape := ⟨1, ![128]⟩
abbrev S1 : Shape := ⟨1, ![1]⟩
abbrev S1x1 : Shape := ⟨2, ![1, 1]⟩
abbrev S1x1x1x128 : Shape := ⟨4, ![1, 1, 1, 128]⟩
abbrev S128x1 : Shape := ⟨2, ![128, 1]⟩

abbrev nBuf : Space → Nat
  | .hbm => 9
  | .vmem => 20
  | .smem => 0
  | _ => 0

abbrev bufTy : (tb : Table) → Fin (tcTables nBuf tb) → BufTy
  | .hbm, ⟨0, _⟩ => ⟨S4x16384x1024, .bf16⟩
  | .hbm, ⟨1, _⟩ => ⟨S4x128x16384, .fp8e4m3⟩
  | .hbm, ⟨2, _⟩ => ⟨S4x1x16384, .f32⟩
  | .hbm, ⟨3, _⟩ => ⟨S4x16384x128, .fp8e4m3⟩
  | .hbm, ⟨4, _⟩ => ⟨S4x1x128, .f32⟩
  | .hbm, ⟨5, _⟩ => ⟨S4x16384x1024, .bf16⟩
  | .hbm, ⟨6, _⟩ => ⟨S4x16384x1024, .fp8e4m3⟩
  | .hbm, ⟨7, _⟩ => ⟨S4x128x8x128, .f32⟩
  | .hbm, ⟨8, _⟩ => ⟨S4x128x8x128, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x16384, .fp8e4m3⟩
  | .local _ .vmem, ⟨3, _⟩ => ⟨S1x128x16384, .fp8e4m3⟩
  | .local _ .vmem, ⟨4, _⟩ => ⟨S1x1x16384, .f32⟩
  | .local _ .vmem, ⟨5, _⟩ => ⟨S1x1x16384, .f32⟩
  | .local _ .vmem, ⟨6, _⟩ => ⟨S1x16384x128, .fp8e4m3⟩
  | .local _ .vmem, ⟨7, _⟩ => ⟨S1x16384x128, .fp8e4m3⟩
  | .local _ .vmem, ⟨8, _⟩ => ⟨S1x1x128, .f32⟩
  | .local _ .vmem, ⟨9, _⟩ => ⟨S1x1x128, .f32⟩
  | .local _ .vmem, ⟨10, _⟩ => ⟨S1x128x1024, .bf16⟩
  | .local _ .vmem, ⟨11, _⟩ => ⟨S1x128x1024, .bf16⟩
  | .local _ .vmem, ⟨12, _⟩ => ⟨S1x128x1024, .fp8e4m3⟩
  | .local _ .vmem, ⟨13, _⟩ => ⟨S1x128x1024, .fp8e4m3⟩
  | .local _ .vmem, ⟨14, _⟩ => ⟨S1x1x8x128, .f32⟩
  | .local _ .vmem, ⟨15, _⟩ => ⟨S1x1x8x128, .f32⟩
  | .local _ .vmem, ⟨16, _⟩ => ⟨S1x1x8x128, .bf16⟩
  | .local _ .vmem, ⟨17, _⟩ => ⟨S1x1x8x128, .bf16⟩
  | .local _ .vmem, ⟨18, _⟩ => ⟨S8x128x1664, .f32⟩
  | .local _ .vmem, ⟨19, _⟩ => ⟨S8x1664, .f32⟩
  | _, _ => ⟨S4x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 128], ![false, false]⟩

def k0_mult1 (i : grid0.Coords) : BitVec 32 :=
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c128_i32 : BitVec 32 := 128#32
  let v2 : BitVec 32 := Scalar.muli v1 c128_i32
  v2
def k0_off1 (i : grid0.Coords) : Fin 3 → Nat :=
  let c0 : Index := 0#32
  let c0_0 : Index := 0#32
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v4 : Index := Scalar.indexCast v3
  ![0, 0, v4.toNat]
def k0_off2 (i : grid0.Coords) : Fin 3 → Nat :=
  let c0_1 : Index := 0#32
  let c0_2 : Index := 0#32
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v7 : Index := Scalar.indexCast v3
  ![0, 0, v7.toNat]
def k0_cond1 (i : grid0.Coords) : BitVec 1 :=
  let arg1 : BitVec 32 := BitVec.ofNat 32 (i 1).val
  let c12_i32_18 : BitVec 32 := 12#32
  let v44 : BitVec 1 := Scalar.cmpi .sge arg1 c12_i32_18
  let v45 : BitVec 32 := Scalar.extui v44
  let c0_i32_19 : BitVec 32 := 0#32
  let v46 : BitVec 1 := Scalar.cmpi .ne v45 c0_i32_19
  v46

def k0_off3 (i : grid0.Coords) (c0_i32_54 : BitVec 32) : Fin 3 → Nat :=
  let c0_55 : Index := 0#32
  let c0_56 : Index := 0#32
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v157 : BitVec 32 := Scalar.addi v3 c0_i32_54
  let v158 : Index := Scalar.indexCast v157
  ![0, 0, v158.toNat]
def k0_off4 (i : grid0.Coords) (c1536_i32_122 : BitVec 32) : Fin 3 → Nat :=
  let c0_123 : Index := 0#32
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v359 : BitVec 32 := Scalar.addi v3 c1536_i32_122
  let v360 : Index := Scalar.indexCast v359
  let c0_124 : Index := 0#32
  ![0, v360.toNat, 0]
def k0_cond2 (i : grid0.Coords) : BitVec 1 :=
  let arg1 : BitVec 32 := BitVec.ofNat 32 (i 1).val
  let c12_i32_20 : BitVec 32 := 12#32
  let v47 : BitVec 1 := Scalar.cmpi .slt arg1 c12_i32_20
  let v48 : BitVec 32 := Scalar.extui v47
  let c0_i32_21 : BitVec 32 := 0#32
  let v49 : BitVec 1 := Scalar.cmpi .ne v48 c0_i32_21
  v49

def k0_off5 (i : grid0.Coords) (c0_i32_55 : BitVec 32) : Fin 3 → Nat :=
  let c0_56 : Index := 0#32
  let c0_57 : Index := 0#32
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v158 : BitVec 32 := Scalar.addi v3 c0_i32_55
  let v159 : Index := Scalar.indexCast v158
  ![0, 0, v159.toNat]
def k0_off6 (i : grid0.Coords) (c0_i32_171 : BitVec 32) : Fin 3 → Nat :=
  let c0_172 : Index := 0#32
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v474 : BitVec 32 := Scalar.addi v3 c0_i32_171
  let v475 : Index := Scalar.indexCast v474
  let c0_173 : Index := 0#32
  ![0, v475.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e_sm" => some (((Real.sqrt 128)⁻¹ * (Real.log 2)⁻¹ : ℝ) : EReal)
  | _ => none
-- ==== ReferenceIdeal.lean ====
variable {F : FTy → Type} [FloatOps F] [Named F]
def κ : String → Option EReal := fun
  | "sm_scale" => some (((Real.sqrt 128)⁻¹ : ℝ) : EReal)
  | _ => none
-- ==== Reference.lean ====
abbrev S4x16384x1024 : Shape := ⟨3, ![4, 16384, 1024]⟩
abbrev S4x128x16384 : Shape := ⟨3, ![4, 128, 16384]⟩
abbrev S4x1x16384 : Shape := ⟨3, ![4, 1, 16384]⟩
abbrev S4x16384x128 : Shape := ⟨3, ![4, 16384, 128]⟩
abbrev S4x1x128 : Shape := ⟨3, ![4, 1, 128]⟩
abbrev S4x128x8x128 : Shape := ⟨4, ![4, 128, 8, 128]⟩
abbrev S4x128x128x8x128 : Shape := ⟨5, ![4, 128, 128, 8, 128]⟩
abbrev S4x128x1x8x128 : Shape := ⟨5, ![4, 128, 1, 8, 128]⟩
abbrev S4x128x128x8 : Shape := ⟨4, ![4, 128, 128, 8]⟩
abbrev S4x128x128x8x1 : Shape := ⟨5, ![4, 128, 128, 8, 1]⟩
abbrev S4x128x8x1 : Shape := ⟨4, ![4, 128, 8, 1]⟩
abbrev S4x128x1x8x1 : Shape := ⟨5, ![4, 128, 1, 8, 1]⟩
abbrev S4x131072x128 : Shape := ⟨3, ![4, 131072, 128]⟩
abbrev S4x131072x16384 : Shape := ⟨3, ![4, 131072, 16384]⟩
abbrev S4x128x128x8x16384 : Shape := ⟨5, ![4, 128, 128, 8, 16384]⟩
abbrev S4x1024x128 : Shape := ⟨3, ![4, 1024, 128]⟩
abbrev S4x1024x16384 : Shape := ⟨3, ![4, 1024, 16384]⟩
abbrev S4x128x1x8x16384 : Shape := ⟨5, ![4, 128, 1, 8, 16384]⟩
abbrev S4x1x1x1x16384 : Shape := ⟨5, ![4, 1, 1, 1, 16384]⟩
abbrev S1x128x128x1x16384 : Shape := ⟨5, ![1, 128, 128, 1, 16384]⟩
abbrev S4x1x1x1x128 : Shape := ⟨5, ![4, 1, 1, 1, 128]⟩

abbrev nBuf : Space → Nat
  | .hbm => 9
  | .vmem => 9
  | .smem => 0
  | _ => 0

abbrev bufTy : (tb : Table) → Fin (tcTables nBuf tb) → BufTy
  | .hbm, ⟨0, _⟩ => ⟨S4x16384x1024, .bf16⟩
  | .hbm, ⟨1, _⟩ => ⟨S4x128x16384, .fp8e4m3⟩
  | .hbm, ⟨2, _⟩ => ⟨S4x1x16384, .f32⟩
  | .hbm, ⟨3, _⟩ => ⟨S4x16384x128, .fp8e4m3⟩
  | .hbm, ⟨4, _⟩ => ⟨S4x1x128, .f32⟩
  | .hbm, ⟨5, _⟩ => ⟨S4x16384x1024, .bf16⟩
  | .hbm, ⟨6, _⟩ => ⟨S4x16384x1024, .fp8e4m3⟩
  | .hbm, ⟨7, _⟩ => ⟨S4x128x8x128, .f32⟩
  | .hbm, ⟨8, _⟩ => ⟨S4x128x8x128, .bf16⟩
  | .local _ .vmem, ⟨0, _⟩ => ⟨S4x16384x1024, .bf16⟩
  | .local _ .vmem, ⟨1, _⟩ => ⟨S4x128x16384, .fp8e4m3⟩
  | .local _ .vmem, ⟨2, _⟩ => ⟨S4x1x16384, .f32⟩
  | .local _ .vmem, ⟨3, _⟩ => ⟨S4x16384x128, .fp8e4m3⟩
  | .local _ .vmem, ⟨4, _⟩ => ⟨S4x1x128, .f32⟩
  | .local _ .vmem, ⟨5, _⟩ => ⟨S4x16384x1024, .bf16⟩
  | .local _ .vmem, ⟨6, _⟩ => ⟨S4x16384x1024, .fp8e4m3⟩
  | .local _ .vmem, ⟨7, _⟩ => ⟨S4x128x8x128, .f32⟩
  | .local _ .vmem, ⟨8, _⟩ => ⟨S4x128x8x128, .bf16⟩
  | _, _ => ⟨S4x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x16384x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x16384x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x128x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Frames.lean ====
/- The frames of the four programs, and that the two idealizations only name the constants they say they name. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Reference.Frame

@[expose] public section

noncomputable section

namespace Cert.Proof.Frames

open Idealize.ShloMosaic Idealize.SL.Sem

/-- Every execution of the kernel ends, in a state as it should be. -/
theorem kernel : Cert.quiescent_Kernel := fun m ρ _ => Cert.Kernel.Gen.frame m ρ
theorem kernelIdeal : Cert.quiescent_KernelIdeal := fun m ρ _ => Cert.KernelIdeal.Gen.frame m ρ
theorem referenceIdeal : Cert.quiescent_ReferenceIdeal := fun m ρ _ => Cert.ReferenceIdeal.Gen.frame m ρ
theorem reference : Cert.quiescent_Reference := fun m ρ _ => Cert.Reference.Gen.frame m ρ

/-- The kernel's one named constant is `log2 e / √128`. -/
theorem preservesKernel : Cert.preserves_Kernel_KernelIdeal :=
  IdealRules.named_const.statement Cert.KernelIdeal.κ "log2e_sm" .f32 0x3E0293EE#32
    (((Real.sqrt 128)⁻¹ * (Real.log 2)⁻¹ : ℝ) : EReal) rfl

/-- The reference's one named constant is `1 / √128`. -/
theorem preservesReference : Cert.preserves_Reference_ReferenceIdeal :=
  IdealRules.named_const.statement Cert.ReferenceIdeal.κ "sm_scale" .f32 0x3DB504F3#32 (((Real.sqrt 128)⁻¹ : ℝ) : EReal) rfl

end Cert.Proof.Frames

end
-- ==== Proof.Scalars.lean ====
/- Facts about single extended reals that a softmax in base 2 and one in base e share.

   The kernel keeps its scores multiplied by `log2 e`, adds 8 to the exponent so that the probabilities come out 256 times
   larger, and divides by a sum that is 256 times larger. -/
module

public import Idealize.ShloMosaic.Lib.Pointwise

@[expose] public section

set_option maxRecDepth 16384

noncomputable section

namespace Cert.Scalars

open Idealize.ShloMosaic

/-- `log2 e`. -/
def c : ℝ := (Real.log 2)⁻¹

theorem c_pos : 0 < c := inv_pos.2 (Real.log_pos (by norm_num))

theorem ofBits_8 : Ideal.ofBits .f32 0x41000000#32 = ((8 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_inv256 : Ideal.ofBits .f32 0x3B800000#32 = ((1 / 256 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_inv128 : Ideal.ofBits .f32 0x3C000000#32 = ((1 / 128 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

theorem ofBits_448 : Ideal.ofBits .f32 0x43E00000#32 = ((448 : ℝ) : EReal) := by
  simp [Ideal.ofBits, Ideal.ieee, -EReal.coe_mul]; norm_num

/-- `1 / 448` as the f32 constant has it: a real between `0` and `1`. -/
theorem ofBits_inv448 : ∃ r : ℝ, Ideal.ofBits .f32 0x3B124925#32 = (r : EReal) ∧ 0 ≤ r ∧ r ≤ 1 := by
  refine ⟨_, by simp [Ideal.ofBits, Ideal.ieee, -EReal.coe_mul]; rfl, ?_, ?_⟩
  · norm_num
  · norm_num

theorem mul_c_le {x y : EReal} (h : x ≤ y) : x * (c : EReal) ≤ y * (c : EReal) :=
  mul_le_mul_of_nonneg_right h (by exact_mod_cast c_pos.le)

theorem mono_mul_c : Monotone fun x : EReal => x * (c : EReal) := fun _ _ h => mul_c_le h

theorem bot_mul_c : (⊥ : EReal) * (c : EReal) = ⊥ := EReal.bot_mul_coe_of_pos c_pos

/-- Base 2 with the exponent raised by 8 is 256 times base e. -/
theorem exp2_eq (s m : EReal) :
    Ideal.exp2 (s * (c : EReal) - (m * (c : EReal) - ((8 : ℝ) : EReal))) = ((256 : ℝ) : EReal) * Ideal.exp (s - m) := by
  have h256 : (0 : ℝ) < 256 := by norm_num
  induction s using EReal.rec with
  | bot =>
    rw [bot_mul_c, EReal.bot_sub, EReal.bot_sub]; simp
  | top =>
    rw [EReal.top_mul_coe_of_pos c_pos]
    induction m using EReal.rec with
    | bot => rw [bot_mul_c, EReal.bot_sub, EReal.top_sub_bot, Ideal.exp2_top, Ideal.exp_top, EReal.coe_mul_top_of_pos h256]
    | top => rw [EReal.top_mul_coe_of_pos c_pos, EReal.top_sub_coe, EReal.sub_top, Ideal.exp2_bot, Ideal.exp_bot, mul_zero]
    | coe m =>
      rw [← EReal.coe_mul, ← EReal.coe_sub, EReal.top_sub_coe, EReal.top_sub_coe, Ideal.exp2_top, Ideal.exp_top,
        EReal.coe_mul_top_of_pos h256]
  | coe s =>
    induction m using EReal.rec with
    | bot =>
      rw [bot_mul_c, EReal.bot_sub, ← EReal.coe_mul, EReal.coe_sub_bot, EReal.coe_sub_bot, Ideal.exp2_top, Ideal.exp_top,
        EReal.coe_mul_top_of_pos h256]
    | top => rw [EReal.top_mul_coe_of_pos c_pos, EReal.top_sub_coe, EReal.sub_top, EReal.sub_top, Ideal.exp2_bot,
        Ideal.exp_bot, mul_zero]
    | coe m =>
      rw [← EReal.coe_mul, ← EReal.coe_mul, ← EReal.coe_sub, ← EReal.coe_sub, ← EReal.coe_sub, Ideal.exp2_coe, Ideal.exp_coe,
        ← EReal.coe_mul]
      congr 1
      show (2 : ℝ) ^ (s * c - (m * c - 8)) = _
      have h2 : (0 : ℝ) < 2 := by norm_num
      have hl : Real.log 2 ≠ 0 := (Real.log_pos (by norm_num)).ne'
      rw [show s * c - (m * c - 8) = (s - m) * c + 8 by ring, Real.rpow_add h2, Real.rpow_def_of_pos h2 ((s - m) * c),
        show Real.log 2 * ((s - m) * c) = s - m by unfold c; field_simp]
      norm_num
      ring

/-- Dividing by 256 times the sum is dividing 1/256 of the product by the sum. -/
theorem div_256 (x l : EReal) :
    Ideal.div x (((256 : ℝ) : EReal) * l) = Ideal.div (x * ((1 / 256 : ℝ) : EReal)) l := by
  have h256 : (((256 : ℝ)) : EReal) ≠ 0 := by exact_mod_cast (by norm_num : (256 : ℝ) ≠ 0)
  have hp : (0 : EReal) < ((1 / 256 : ℝ) : EReal) := by exact_mod_cast (by norm_num : (0 : ℝ) < 1 / 256)
  unfold Ideal.div
  by_cases hl : l = 0
  · have : (0 < x * ((1 / 256 : ℝ) : EReal)) ↔ 0 < x := by
      rw [EReal.mul_pos_iff]
      constructor
      · rintro (h | h)
        · exact h.1
        · exact absurd h.2 (not_lt.2 hp.le)
      · intro h; exact Or.inl ⟨h, hp⟩
    simp only [hl, mul_zero, if_true, this]
  · rw [if_neg (by simp only [mul_eq_zero, not_or]; exact ⟨h256, hl⟩), if_neg hl, mul_assoc]
    congr 1
    induction l using EReal.rec with
    | bot => rw [EReal.coe_mul_bot_of_pos (by norm_num), EReal.inv_bot, mul_zero]
    | top => rw [EReal.coe_mul_top_of_pos (by norm_num), EReal.inv_top, mul_zero]
    | coe l =>
      rw [← EReal.coe_mul, ← EReal.coe_inv, ← EReal.coe_inv, ← EReal.coe_mul, mul_inv, one_div]

/-- The kernel's score (the factors folded into the two terms) is the reference's times `log2 e`. -/
theorem score_eq (s k q u sm : EReal) (hk : 0 ≤ k) (hk' : k ≠ ⊤) (hsm : 0 ≤ sm) (hsm' : sm ≠ ⊤) :
    s * (k * (sm * (c : EReal)) * q) + u * (k * (sm * (c : EReal))) = k * (q * s + u) * sm * (c : EReal) := by
  have hc : (0 : EReal) ≤ (c : EReal) := by exact_mod_cast c_pos.le
  have h0 : 0 ≤ k * (sm * (c : EReal)) := mul_nonneg hk (mul_nonneg hsm hc)
  have h1 : k * (sm * (c : EReal)) ≠ ⊤ := by
    lift k to ℝ using ⟨hk', ne_bot_of_le_ne_bot EReal.zero_ne_bot hk⟩
    lift sm to ℝ using ⟨hsm', ne_bot_of_le_ne_bot EReal.zero_ne_bot hsm⟩
    rw [← EReal.coe_mul, ← EReal.coe_mul]; exact EReal.coe_ne_top _
  have e := EReal.left_distrib_of_nonneg_of_ne_top h0 h1 (q * s) u
  calc s * (k * (sm * (c : EReal)) * q) + u * (k * (sm * (c : EReal)))
      = k * (sm * (c : EReal)) * (q * s) + k * (sm * (c : EReal)) * u := by
        congr 1
        · ac_rfl
        · ac_rfl
    _ = k * (sm * (c : EReal)) * (q * s + u) := e.symm
    _ = k * (q * s + u) * sm * (c : EReal) := by ac_rfl

/-- A nonnegative real factor comes out of a sum. -/
theorem mul_sum_eq {ι : Type*} (s : Finset ι) (r : ℝ) (hr : 0 ≤ r) (f : ι → EReal) :
    ∑ i ∈ s, (r : EReal) * f i = (r : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast hr) (EReal.coe_ne_top _)]

end Cert.Scalars

end
-- ==== Proof.Softmax.lean ====
/- One row of attention over a window of keys, as sums and suprema of extended reals.

   The kernel walks thirteen tiles of 128 keys, keeps the scores times `log2 e` and the weights times 256; the reference
   sums over all the keys under a mask. `attn_eq` says that both give the same weighted mean. -/
module

public import proofs.«01_k».proof.Proof.Scalars

@[expose] public section

set_option maxRecDepth 16384

noncomputable section

namespace Cert.Softmax

open Idealize.ShloMosaic Cert.Scalars

/-- A weight clipped to the range of the codes. -/
def clip (x : EReal) : EReal := min (Ideal.ofBits .f32 0x43E00000#32) (max 0 x)

theorem clip_zero : clip 0 = 0 := by
  unfold clip
  rw [max_self, ofBits_448]
  exact min_eq_right (by exact_mod_cast (by norm_num : (0 : ℝ) ≤ 448))

/-- `n` further terms taken into a sum. -/
theorem fold_add (z : EReal) (g : ℕ → EReal) (n : ℕ) :
    (Nat.rec z (fun k r => r + g k) n : EReal) = z + ∑ k ∈ Finset.range n, g k := by
  induction n with
  | zero => simp
  | succ n ih => rw [Finset.sum_range_succ, ← add_assoc, ← ih]

/-- `n` further terms taken into a maximum. -/
theorem fold_max (z : EReal) (g : ℕ → EReal) (n : ℕ) :
    (Nat.rec z (fun k r => max r (g k)) n : EReal) = max z ((Finset.range n).sup g) := by
  induction n with
  | zero => simp
  | succ n ih =>
    show max (Nat.rec z (fun k r => max r (g k)) n : EReal) (g n) = _
    rw [ih, Finset.range_add_one, Finset.sup_insert, max_assoc, max_comm (g n)]

/-- The exponent's offset: the largest score less eight. -/
def shift (U : ℕ → Fin 128 → EReal) : EReal :=
  (Finset.range 13).sup (fun j => Finset.univ.sup (U j)) - Ideal.ofBits .f32 0x41000000#32

/-- The weight of a key. -/
def weight (U : ℕ → Fin 128 → EReal) (j : ℕ) (k : Fin 128) : EReal := Ideal.exp2 (U j k - shift U)

/-- The weighted mean of a column of values over thirteen tiles of keys. -/
def attn (U V : ℕ → Fin 128 → EReal) (vs : EReal) : EReal :=
  Ideal.div ((∑ j ∈ Finset.range 13, ∑ k, clip (weight U j k) * V j k) * vs)
    (∑ j ∈ Finset.range 13, ∑ k, weight U j k)

/-- The tiles of the steady part: the first and the last tile share one tile's worth of keys. -/
def shared (q : Fin 128 → Prop) [DecidablePred q] (t : ℕ → Fin 128 → EReal) (j : ℕ) (k : Fin 128) : EReal :=
  if j = 0 then (if q k then ⊥ else t 0 k) else if j = 12 then (if q k then t 12 k else ⊥) else t j k

section Steady

variable (q : Fin 128 → Prop) [DecidablePred q] (t V : ℕ → Fin 128 → EReal)

/-- The tile that the first and the last share. -/
def edge (k : Fin 128) : EReal := if q k then t 12 k else t 0 k

theorem range13 {M : Type} [AddCommMonoid M] (f : ℕ → M) :
    ∑ j ∈ Finset.range 13, f j = (f 12 + f 0) + ∑ k ∈ Finset.range 11, f (k + 1) := by
  rw [Finset.sum_range_succ, Finset.sum_range_succ']
  abel

theorem exp2_bot_sub (x : EReal) : Ideal.exp2 (⊥ - x) = 0 := by
  rw [EReal.bot_sub]; simp

/-- The steady part's maximum is the maximum over its thirteen tiles. -/
theorem steady_shift :
    Finset.univ.sup (fun k => max (edge q t k) ((Finset.range 11).sup fun j => t (j + 1) k))
      = (Finset.range 13).sup fun j => Finset.univ.sup (shared q t j) := by
  apply le_antisymm
  · refine Finset.sup_le fun k _ => max_le ?_ (Finset.sup_le fun j hj => ?_)
    · unfold edge
      split
      · next h =>
        have : t 12 k = shared q t 12 k := by simp [shared, h]
        rw [this]
        exact (Finset.le_sup (f := shared q t 12) (Finset.mem_univ k)).trans
          (Finset.le_sup (f := fun j => Finset.univ.sup (shared q t j)) (by simp))
      · next h =>
        have : t 0 k = shared q t 0 k := by simp [shared, h]
        rw [this]
        exact (Finset.le_sup (f := shared q t 0) (Finset.mem_univ k)).trans
          (Finset.le_sup (f := fun j => Finset.univ.sup (shared q t j)) (by simp))
    · have hj := Finset.mem_range.1 hj
      have : t (j + 1) k = shared q t (j + 1) k := by
        unfold shared; rw [if_neg (by omega), if_neg (by omega)]
      rw [this]
      exact (Finset.le_sup (f := shared q t (j + 1)) (Finset.mem_univ k)).trans
        (Finset.le_sup (f := fun j => Finset.univ.sup (shared q t j)) (Finset.mem_range.2 (by omega)))
  · refine Finset.sup_le fun j hj => Finset.sup_le fun k _ => ?_
    have hj := Finset.mem_range.1 hj
    refine le_trans ?_ (Finset.le_sup (f := fun k => max (edge q t k) ((Finset.range 11).sup fun j => t (j + 1) k)) (Finset.mem_univ k))
    unfold shared edge
    by_cases h0 : j = 0
    · rw [if_pos h0]
      split
      · exact bot_le
      · exact le_max_left _ _
    · rw [if_neg h0]
      by_cases h12 : j = 12
      · rw [if_pos h12]
        split
        · exact le_max_left _ _
        · exact bot_le
      · rw [if_neg h12]
        refine le_trans ?_ (le_max_right _ _)
        have := Finset.le_sup (f := fun j => t (j + 1) k) (s := Finset.range 11) (b := j - 1) (Finset.mem_range.2 (by omega))
        simpa [show j - 1 + 1 = j by omega] using this

theorem weight_mid (s : EReal) (j : ℕ) (hj : j < 11) (k : Fin 128) (h : s = shift (shared q t)) :
    Ideal.exp2 (t (j + 1) k - s) = weight (shared q t) (j + 1) k := by
  subst h
  unfold weight
  rw [show shared q t (j + 1) k = t (j + 1) k by unfold shared; rw [if_neg (by omega), if_neg (by omega)]]

theorem weight_zero (k : Fin 128) :
    weight (shared q t) 0 k = if q k then 0 else Ideal.exp2 (edge q t k - shift (shared q t)) := by
  unfold weight edge
  by_cases h : q k
  · rw [if_pos h, show shared q t 0 k = ⊥ by simp [shared, h], exp2_bot_sub]
  · rw [if_neg h, if_neg h, show shared q t 0 k = t 0 k by simp [shared, h]]

theorem weight_last (k : Fin 128) :
    weight (shared q t) 12 k = if q k then Ideal.exp2 (edge q t k - shift (shared q t)) else 0 := by
  unfold weight edge
  by_cases h : q k
  · rw [if_pos h, if_pos h, show shared q t 12 k = t 12 k by simp [shared, h]]
  · rw [if_neg h, show shared q t 12 k = ⊥ by simp [shared, h], exp2_bot_sub]

/-- What the steady part computes in a row is the weighted mean over its thirteen tiles. -/
theorem steady_eq (vs : EReal) (s : EReal)
    (hs : s = Finset.univ.sup (fun k => max (edge q t k) ((Finset.range 11).sup fun j => t (j + 1) k))
      - Ideal.ofBits .f32 0x41000000#32) :
    Ideal.div
      (((∑ k, (if q k then clip (Ideal.exp2 (edge q t k - s)) else 0) * V 12 k)
          + (∑ k, (if q k then 0 else clip (Ideal.exp2 (edge q t k - s))) * V 0 k)
          + ∑ j ∈ Finset.range 11, ∑ k, clip (Ideal.exp2 (t (j + 1) k - s)) * V (j + 1) k) * vs)
      (∑ k, (Ideal.exp2 (edge q t k - s) + ∑ j ∈ Finset.range 11, Ideal.exp2 (t (j + 1) k - s)))
    = attn (shared q t) V vs := by
  have hsh : s = shift (shared q t) := by rw [hs, steady_shift]; rfl
  unfold attn
  rw [range13, range13]
  congr 1
  · congr 2
    · congr 1
      · refine Finset.sum_congr rfl fun k _ => ?_
        rw [weight_last, hsh]
        by_cases h : q k
        · simp only [if_pos h]
        · simp only [if_neg h, clip_zero]
      · refine Finset.sum_congr rfl fun k _ => ?_
        rw [weight_zero, hsh]
        by_cases h : q k
        · simp only [if_pos h, clip_zero]
        · simp only [if_neg h]
    · refine Finset.sum_congr rfl fun j hj => Finset.sum_congr rfl fun k _ => ?_
      rw [weight_mid q t s j (Finset.mem_range.1 hj) k hsh]
  · rw [Finset.sum_add_distrib, ← Finset.sum_add_distrib (f := weight (shared q t) 12), Finset.sum_comm]
    congr 1
    · refine Finset.sum_congr rfl fun k _ => ?_
      rw [weight_last, weight_zero, hsh]
      by_cases h : q k
      · simp only [if_pos h, add_zero]
      · simp only [if_neg h, zero_add]
    · refine Finset.sum_congr rfl fun j hj => Finset.sum_congr rfl fun k _ => ?_
      rw [weight_mid q t s j (Finset.mem_range.1 hj) k hsh]

end Steady

/-- What the ramp computes in a row is the weighted mean over its thirteen tiles. -/
theorem ramp_eq (U V : ℕ → Fin 128 → EReal) (vs s : EReal)
    (hs : s = Finset.univ.sup (fun k => max ⊥ ((Finset.range 13).sup fun j => U j k)) - Ideal.ofBits .f32 0x41000000#32) :
    Ideal.div
      ((0 + ∑ j ∈ Finset.range 13, ∑ k, clip (Ideal.exp2 (U j k - s)) * V j k) * vs)
      (∑ k, (0 + ∑ j ∈ Finset.range 13, Ideal.exp2 (U j k - s)))
    = attn U V vs := by
  have hsh : s = shift U := by
    rw [hs]; unfold shift; congr 1
    simp only [bot_le, max_eq_right]
    exact Finset.sup_comm _ _ _
  unfold attn
  subst hsh
  rw [zero_add]
  congr 1
  simp only [zero_add]
  exact Finset.sum_comm

/-! ### From the tiles to all the keys -/

/-- The `k`-th key of the `j`-th tile of the window that starts at `k0`. -/
def key (k0 j : ℕ) (k : Fin 128) : Fin 16384 := Fin.ofNat 16384 (k0 + 128 * j + k.val)

theorem sum_tiles (g : ℕ → EReal) (a b : ℕ) :
    ∑ n ∈ Finset.range (a * b), g n = ∑ j ∈ Finset.range a, ∑ k ∈ Finset.range b, g (b * j + k) := by
  induction a with
  | zero => simp
  | succ a ih => rw [Nat.succ_mul, Finset.sum_range_add, ih, Finset.sum_range_succ, Nat.mul_comm a b]

theorem sum_window (f : Fin 16384 → EReal) (k0 : ℕ) (h : k0 + 1664 ≤ 16384)
    (hz : ∀ κ : Fin 16384, (κ.val < k0 ∨ k0 + 1664 ≤ κ.val) → f κ = 0) :
    ∑ κ, f κ = ∑ j ∈ Finset.range 13, ∑ k, f (key k0 j k) := by
  have e1 : ∑ κ, f κ = ∑ n ∈ Finset.range 16384, f (Fin.ofNat 16384 n) := by
    rw [Finset.sum_range]
    refine Finset.sum_congr rfl fun κ _ => ?_
    congr 1
    exact Fin.ext (Nat.mod_eq_of_lt κ.isLt).symm
  have e2 : ∑ n ∈ Finset.range 16384, f (Fin.ofNat 16384 n) = ∑ n ∈ Finset.Ico k0 (k0 + 1664), f (Fin.ofNat 16384 n) := by
    symm
    apply Finset.sum_subset
    · intro n hn
      rw [Finset.mem_Ico] at hn
      rw [Finset.mem_range]; omega
    · intro n hn hn'
      rw [Finset.mem_range] at hn
      rw [Finset.mem_Ico] at hn'
      apply hz
      have : (Fin.ofNat 16384 n).val = n := Nat.mod_eq_of_lt hn
      rw [this]; omega
  rw [e1, e2, Finset.sum_Ico_eq_sum_range, show k0 + 1664 - k0 = 13 * 128 by omega, sum_tiles]
  refine Finset.sum_congr rfl fun j _ => ?_
  rw [Finset.sum_range]
  refine Finset.sum_congr rfl fun k _ => ?_
  unfold key
  rw [Nat.add_assoc]

theorem sup_window (f : Fin 16384 → EReal) (k0 : ℕ) (h : k0 + 1664 ≤ 16384)
    (hz : ∀ κ : Fin 16384, (κ.val < k0 ∨ k0 + 1664 ≤ κ.val) → f κ = ⊥) :
    Finset.univ.sup f = (Finset.range 13).sup fun j => Finset.univ.sup fun k => f (key k0 j k) := by
  apply le_antisymm
  · refine Finset.sup_le fun κ _ => ?_
    by_cases hκ : κ.val < k0 ∨ k0 + 1664 ≤ κ.val
    · rw [hz κ hκ]; exact bot_le
    · have hk : κ = key k0 ((κ.val - k0) / 128) ⟨(κ.val - k0) % 128, Nat.mod_lt _ (by norm_num)⟩ := by
        refine Fin.ext ?_
        show κ.val = (k0 + 128 * ((κ.val - k0) / 128) + (κ.val - k0) % 128) % 16384
        have := κ.isLt
        omega
      rw [hk]
      generalize hj : (κ.val - k0) / 128 = j
      have hj' : j < 13 := by omega
      exact (Finset.le_sup (f := fun k => f (key k0 j k)) (Finset.mem_univ _)).trans
        (Finset.le_sup (f := fun j => Finset.univ.sup fun k => f (key k0 j k)) (Finset.mem_range.2 hj'))
  · exact Finset.sup_le fun j _ => Finset.sup_le fun k _ => Finset.le_sup (f := f) (Finset.mem_univ _)

theorem sup_mul_c {ι : Type} (s : Finset ι) (f : ι → EReal) : s.sup (fun i => f i * (c : EReal)) = s.sup f * (c : EReal) := by
  classical
  induction s using Finset.induction_on with
  | empty => rw [Finset.sup_empty, Finset.sup_empty, bot_mul_c]
  | insert a s _ ih =>
    rw [Finset.sup_insert, Finset.sup_insert, ih]
    exact (mono_mul_c.map_max (a := f a) (b := s.sup f)).symm

/-- A row's scores under the mask. -/
def masked {ι : Type} (s : ι → EReal) (mask : ι → Prop) [DecidablePred mask] (κ : ι) : EReal :=
  if mask κ then s κ else ⊥

/-- A row's probabilities, before the division by their sum. -/
def prob {ι : Type} [Fintype ι] (s : ι → EReal) (mask : ι → Prop) [DecidablePred mask] (κ : ι) : EReal :=
  if mask κ then Ideal.exp (masked s mask κ - Finset.univ.sup (masked s mask)) else 0

/-- The reference's row: the weighted mean over all the keys, with the weights at the scale `1/256`. -/
def whole {ι : Type} [Fintype ι] (s V : ι → EReal) (mask : ι → Prop) [DecidablePred mask] (vs : EReal) : EReal :=
  Ideal.div ((∑ κ, clip (prob s mask κ * Ideal.ofBits .f32 0x43800000#32) * V κ) * Ideal.ofBits .f32 0x3B800000#32 * vs)
    (∑ κ, prob s mask κ)

/-- A selection by a bit that says whether `p`. -/
theorem select_iff {α : Type} {w : BitVec 1} {p : Prop} [Decidable p] (h : w = 1#1 ↔ p) (a b : α) :
    Scalar.select w a b = if p then a else b := by
  unfold Scalar.select
  exact if_congr h rfl rfl

/-- The reference's row as its operations spell it, the mask a vector of bits. -/
theorem whole_word {ι : Type} [Fintype ι] (w : ι → BitVec 1) (s V : ι → EReal) (mask : ι → Prop) [DecidablePred mask]
    (vs : EReal) (hw : ∀ κ, w κ = 1#1 ↔ mask κ) :
    Ideal.div
      ((∑ x, min (Ideal.ofBits .f32 0x43E00000#32) (max 0
          (Scalar.select (w x)
            (Ideal.exp (Scalar.select (w x) (s x) (Ideal.ofBits .f32 0xFF800000#32)
              - Finset.fold max (Ideal.ofBits .f32 0xFF800000#32)
                  (fun x => Scalar.select (w x) (s x) (Ideal.ofBits .f32 0xFF800000#32)) Finset.univ)) 0
              * Ideal.ofBits .f32 0x43800000#32)) * V x) * Ideal.ofBits .f32 0x3B800000#32 * vs)
      (∑ x, Scalar.select (w x)
        (Ideal.exp (Scalar.select (w x) (s x) (Ideal.ofBits .f32 0xFF800000#32)
          - Finset.fold max (Ideal.ofBits .f32 0xFF800000#32)
              (fun x => Scalar.select (w x) (s x) (Ideal.ofBits .f32 0xFF800000#32)) Finset.univ)) 0)
    = whole s V mask vs := by
  have e : ∀ x (p q : EReal), Scalar.select (w x) p q = if mask x then p else q := fun x p q => select_iff (hw x) p q
  unfold whole
  simp only [e, ofBits_bot, clip]
  rfl

/-- The weighted mean over the tiles of the window is the one over all the keys under the mask. -/
theorem attn_eq (s V : Fin 16384 → EReal) (mask : Fin 16384 → Prop) [DecidablePred mask] (vs : EReal)
    (k0 : ℕ) (h : k0 + 1664 ≤ 16384) (hm : ∀ κ : Fin 16384, mask κ → k0 ≤ κ.val ∧ κ.val < k0 + 1664)
    (U W : ℕ → Fin 128 → EReal)
    (hU : ∀ j < 13, ∀ k, U j k = if mask (key k0 j k) then s (key k0 j k) * (c : EReal) else ⊥)
    (hW : ∀ j < 13, ∀ k, W j k = V (key k0 j k)) :
    attn U W vs = whole s V mask vs := by
  unfold whole
  generalize hs' : masked s mask = s'
  generalize hpp : prob s mask = p
  have es : ∀ κ, s' κ = if mask κ then s κ else ⊥ := fun κ => by rw [← hs']; rfl
  have ep : ∀ κ, p κ = if mask κ then Ideal.exp (s' κ - Finset.univ.sup s') else 0 := fun κ => by rw [← hpp, ← hs']; rfl
  have hmf : ∀ κ : Fin 16384, (κ.val < k0 ∨ k0 + 1664 ≤ κ.val) → ¬ mask κ := fun κ hk hmk => by
    have := hm κ hmk; omega
  have hU' : ∀ j < 13, ∀ k, U j k = s' (key k0 j k) * (c : EReal) := fun j hj k => by
    rw [hU j hj k, es]
    split
    · rfl
    · rw [bot_mul_c]
  have hp : ∀ κ, p κ = Ideal.exp (s' κ - Finset.univ.sup s') := fun κ => by
    rw [ep]
    split
    · rfl
    · next hh =>
      have : s' κ = ⊥ := (es κ).trans (if_neg hh)
      rw [this, EReal.bot_sub]; simp
  have hsh : shift U = Finset.univ.sup s' * (c : EReal) - ((8 : ℝ) : EReal) := by
    unfold shift
    rw [ofBits_8, sup_window s' k0 h fun κ hk => (es κ).trans (if_neg (hmf κ hk)), ← sup_mul_c]
    congr 1
    refine Finset.sup_congr rfl fun j hj => ?_
    rw [← sup_mul_c]
    exact Finset.sup_congr rfl fun k _ => hU' j (Finset.mem_range.1 hj) k
  have hw : ∀ j < 13, ∀ k, weight U j k = ((256 : ℝ) : EReal) * p (key k0 j k) := fun j hj k => by
    unfold weight
    rw [hU' j hj k, hsh, exp2_eq, hp]
  have hp0 : ∀ κ : Fin 16384, (κ.val < k0 ∨ k0 + 1664 ≤ κ.val) → p κ = 0 := fun κ hk => (ep κ).trans (if_neg (hmf κ hk))
  unfold attn
  rw [sum_window p k0 h hp0, sum_window (fun κ => clip (p κ * Ideal.ofBits .f32 0x43800000#32) * V κ) k0 h
    fun κ hk => by rw [hp0 κ hk, zero_mul, clip_zero, zero_mul]]
  rw [show (∑ j ∈ Finset.range 13, ∑ k, weight U j k)
      = ((256 : ℝ) : EReal) * ∑ j ∈ Finset.range 13, ∑ k, p (key k0 j k) by
    rw [← mul_sum_eq _ _ (by norm_num)]
    refine Finset.sum_congr rfl fun j hj => ?_
    rw [← mul_sum_eq _ _ (by norm_num)]
    exact Finset.sum_congr rfl fun k _ => hw j (Finset.mem_range.1 hj) k]
  rw [div_256, ofBits_inv256, ofBits_256]
  congr 1
  rw [mul_assoc, mul_assoc, mul_comm vs]
  congr 1
  refine Finset.sum_congr rfl fun j hj => Finset.sum_congr rfl fun k _ => ?_
  rw [hw j (Finset.mem_range.1 hj) k, hW j (Finset.mem_range.1 hj) k, mul_comm (p _)]

end Cert.Softmax

end
-- ==== Proof.Exponent.lean ====
/- The power-of-two scale of a query block, as a fact about one extended real `y`.

   The kernel finds the exponent field of `y` by a binary search over the words `field << 23` read as floats; the
   reference takes the floor of the base-2 logarithm. For `0 ≤ y < 2 ^ 126` both give the same exponent `e`, the kernel's
   words denote `2 ^ e` and `2 ^ (-e)`, and these are what the reference's `exp2` gives. -/
module

public import Idealize.ShloMosaic.Lib.Pointwise

@[expose] public section

set_option maxRecDepth 16384

noncomputable section

namespace Cert.Exponent

open Idealize.ShloMosaic

/-- The float whose word is `n << 23`. -/
def wordAt (n : BitVec 32) : EReal := Ideal.ofBits .f32 (IntOp.shli .vector n 23#32)

/-- One step of the search: add `b` to the field unless that passes `y`. -/
def step (y : EReal) (b n : BitVec 32) : BitVec 32 :=
  if y < wordAt (IntOp.addi n b) then n else IntOp.addi n b

/-- The exponent field of `y`, bit by bit. -/
def field (y : EReal) : BitVec 32 :=
  step y 1#32 <| step y 2#32 <| step y 4#32 <| step y 8#32 <| step y 16#32 <| step y 32#32 <| step y 64#32 <|
    step y 128#32 0#32

/-- The exponent the kernel uses: `0` for the empty field, the field less `126` otherwise. -/
def expo (y : EReal) : BitVec 32 :=
  Scalar.select (IntOp.cmpi .eq (field y) 0#32) 0#32 (IntOp.subi (field y) 126#32)

/-- The kernel's `2 ^ n`: the word with the exponent field `n + 127`. -/
def pow2 (n : BitVec 32) : EReal := wordAt (IntOp.addi n 127#32)

/-- The reference's exponent of `y`. -/
def refExpo (y : EReal) : EReal :=
  if y < Ideal.ofBits .f32 0x00800000#32 then 0
  else Ideal.liftRound Int.floor (Ideal.div (Ideal.log y) (Ideal.log (Ideal.ofBits .f32 0x40000000#32))) + 1

/-! ### What the words denote -/

theorem words : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

theorem scaled (n : ℤ) : (1 : ℝ) * ((2 ^ 23 + 0 : ℕ) : ℝ) * (2 : ℝ) ^ (n - (2 ^ (8 - 1) - 1) - (23 : ℕ)) = 2 ^ (n - 127) := by
  have h : (2 : ℝ) ^ (n - 127) = (2 : ℝ) ^ (23 : ℤ) * 2 ^ (n - 127 - 23) := by
    rw [← zpow_add₀ (by norm_num : (2 : ℝ) ≠ 0)]; congr 1; ring
  rw [h, Nat.add_zero, Nat.cast_pow, one_mul]
  norm_num

theorem ieee_eq (b : BitVec 32) (n : ℕ) (h1 : (b.extractLsb' (8 + 23) 1 == 1#1) = false)
    (h2 : (b.extractLsb' 23 8).toNat = n) (h3 : (b.extractLsb' 0 23).toNat = 0) :
    Ideal.ieee 8 23 b = if n = 255 then ⊤ else if n = 0 then 0 else (((2 : ℝ) ^ ((n : ℤ) - 127) : ℝ) : EReal) := by
  unfold Ideal.ieee
  dsimp only
  rw [h1, h2, h3, show 2 ^ 8 - 1 = 255 from rfl]
  by_cases ha : n = 255
  · rw [if_pos ha, if_pos ha]; rfl
  · rw [if_neg ha, if_neg ha]
    by_cases hb : n = 0
    · rw [if_pos hb, if_pos hb]; simp
    · rw [if_neg hb, if_neg hb, if_neg (by decide), scaled]

theorem wordAt_eq (n : ℕ) (h : n < 256) :
    wordAt (BitVec.ofNat 32 n)
      = if n = 255 then ⊤ else if n = 0 then 0 else (((2 : ℝ) ^ ((n : ℤ) - 127) : ℝ) : EReal) := by
  obtain ⟨h1, h2, h3⟩ := words ⟨n, h⟩
  exact ieee_eq _ n h1 h2 h3

theorem ofBits_two : Ideal.ofBits .f32 0x40000000#32 = ((2 : ℝ) : EReal) := by
  have := wordAt_eq 128 (by norm_num)
  norm_num at this
  exact this

theorem ofBits_minNormal : Ideal.ofBits .f32 0x00800000#32 = (((2 : ℝ) ^ (-126 : ℤ) : ℝ) : EReal) := by
  have := wordAt_eq 1 (by norm_num)
  rw [if_neg (by norm_num), if_neg (by norm_num)] at this
  exact this.trans (by norm_num)

/-! ### The search -/

/-- `n` is a field not above `y`'s, and less than `b` below it. -/
def Within (y : EReal) (n : BitVec 32) (b : ℕ) : Prop :=
  ∃ k : ℕ, n = BitVec.ofNat 32 k ∧ k + b ≤ 256 ∧ wordAt (BitVec.ofNat 32 k) ≤ y
    ∧ (k + b ≤ 255 → y < wordAt (BitVec.ofNat 32 (k + b)))

theorem addi_ofNat (a b : ℕ) : IntOp.addi (BitVec.ofNat 32 a) (BitVec.ofNat 32 b) = BitVec.ofNat 32 (a + b) :=
  (BitVec.ofNat_add ..).symm

theorem Within.step {y : EReal} {n : BitVec 32} {b : ℕ} (hb : 1 ≤ b) (h : Within y n (b + b)) :
    Within y (step y (BitVec.ofNat 32 b) n) b := by
  obtain ⟨k, rfl, hk, hlo, hhi⟩ := h
  unfold Exponent.step
  rw [addi_ofNat]
  split
  · next hlt => exact ⟨k, rfl, by omega, hlo, fun _ => hlt⟩
  · next hge => exact ⟨k + b, rfl, by omega, not_lt.1 hge, fun hh => by rw [add_assoc]; exact hhi (by omega)⟩

theorem field_within {y : EReal} (h0 : 0 ≤ y) : Within y (field y) 1 := by
  have h : Within y 0#32 (128 + 128) :=
    ⟨0, rfl, by omega, by rw [wordAt_eq 0 (by omega)]; simpa using h0, fun h => by omega⟩
  exact (((((((h.step (by omega) |>.step (b := 64) (by omega)).step (b := 32) (by omega)).step (b := 16) (by omega)).step
    (b := 8) (by omega)).step (b := 4) (by omega)).step (b := 2) (by omega)).step (b := 1) (by omega))

theorem select_eq {n : BitVec 32} (a b : BitVec 32) :
    Scalar.select (IntOp.cmpi .eq n 0#32) a b = if n = 0#32 then a else b := by
  by_cases h : n = 0#32
  · simp [Scalar.select, IntOp.cmpi, h]
  · have : (n == 0#32) = false := by simpa using h
    simp [Scalar.select, IntOp.cmpi, h, this]

/-- THE EXPONENT: for `0 ≤ y < 2 ^ 126` there is one integer `e` that the reference's exponent is, and the kernel's two words
    denote `2 ^ e` and `2 ^ (-e)`. -/
theorem expo_spec {y : EReal} (h0 : 0 ≤ y) (h1 : y < (((2 : ℝ) ^ (126 : ℤ) : ℝ) : EReal)) :
    ∃ e : ℤ, refExpo y = ((e : ℝ) : EReal)
      ∧ pow2 (expo y) = (((2 : ℝ) ^ e : ℝ) : EReal)
      ∧ pow2 (IntOp.subi 0#32 (expo y)) = (((2 : ℝ) ^ (-e) : ℝ) : EReal) := by
  obtain ⟨k, hk, hkb, hlo, hhi⟩ := field_within h0
  have hk' : k ≤ 252 := by
    by_contra hcon
    have hk2 : k = 253 ∨ k = 254 ∨ k = 255 := by omega
    have h2 := lt_of_le_of_lt hlo h1
    rw [wordAt_eq k (by omega)] at h2
    rcases hk2 with rfl | rfl | rfl
    · rw [if_neg (by norm_num), if_neg (by norm_num), EReal.coe_lt_coe_iff] at h2
      norm_num at h2
    · rw [if_neg (by norm_num), if_neg (by norm_num), EReal.coe_lt_coe_iff] at h2
      norm_num at h2
    · simp at h2
  have hhi := hhi (by omega)
  rw [wordAt_eq _ (by omega)] at hlo hhi
  rw [if_neg (by omega), if_neg (by omega)] at hhi
  unfold expo
  rw [select_eq, hk]
  unfold refExpo pow2
  rw [ofBits_minNormal, ofBits_two]
  by_cases hz : k = 0
  · subst hz
    have hlt : y < (((2 : ℝ) ^ (-126 : ℤ) : ℝ) : EReal) := lt_of_lt_of_eq hhi (by norm_num)
    refine ⟨0, by rw [if_pos hlt]; simp, ?_, ?_⟩
    · rw [if_pos rfl]
      exact (wordAt_eq 127 (by norm_num)).trans (by norm_num)
    · rw [if_pos rfl]
      exact (wordAt_eq 127 (by norm_num)).trans (by norm_num)
  · rw [if_neg (by omega), if_neg hz] at hlo
    have hne : BitVec.ofNat 32 k ≠ 0#32 := fun h => hz (by
      have := congrArg BitVec.toNat h
      rw [BitVec.toNat_ofNat, Nat.mod_eq_of_lt (by omega)] at this
      exact this)
    rw [if_neg hne]
    have hytop : y ≠ ⊤ := ne_top_of_lt h1
    have hybot : y ≠ ⊥ := fun h => by rw [h] at h0; simp at h0
    lift y to ℝ using ⟨hytop, hybot⟩
    rw [EReal.coe_le_coe_iff] at hlo
    rw [EReal.coe_lt_coe_iff] at hhi
    have hpos : (0 : ℝ) < y := lt_of_lt_of_le (by positivity) hlo
    have hlog : ⌊Real.log y / Real.log 2⌋ = (k : ℤ) - 127 := by
      have hl2 : 0 < Real.log 2 := Real.log_pos (by norm_num)
      rw [Int.floor_eq_iff]
      constructor
      · rw [le_div_iff₀ hl2, ← Real.log_rpow (by norm_num)]
        exact Real.log_le_log (by positivity) (by rw [Real.rpow_intCast]; exact hlo)
      · rw [div_lt_iff₀ hl2]
        have : (((k : ℤ) - 127 : ℤ) : ℝ) + 1 = (((k + 1 : ℕ) : ℤ) - 127 : ℤ) := by push_cast; ring
        rw [this, ← Real.log_rpow (by norm_num)]
        exact Real.log_lt_log hpos (by rw [Real.rpow_intCast]; exact hhi)
    refine ⟨(k : ℤ) - 126, ?_, ?_, ?_⟩
    · rw [if_neg (not_lt.2 (EReal.coe_le_coe_iff.2 (le_trans (zpow_le_zpow_right₀ (by norm_num) (by omega)) hlo)))]
      rw [Ideal.log_coe, Ideal.log_coe, if_neg (not_le.2 hpos), if_neg (by norm_num),
        Ideal.div_coe (Real.log_pos (by norm_num)).ne', ← EReal.coe_mul, Ideal.liftRound_coe, mul_one_div, hlog]
      rw [← EReal.coe_one, ← EReal.coe_add]
      congr 1; push_cast; ring
    · have : IntOp.addi (IntOp.subi (BitVec.ofNat 32 k) 126#32) 127#32 = BitVec.ofNat 32 (k + 1) := by
        have := (by decide +kernel : ∀ k : Fin 256, IntOp.addi (IntOp.subi (BitVec.ofNat 32 k.val) 126#32) 127#32
          = BitVec.ofNat 32 (k.val + 1)) ⟨k, by omega⟩
        exact this
      rw [this, wordAt_eq _ (by omega), if_neg (by omega), if_neg (by omega)]
      congr 2; push_cast; ring
    · have : IntOp.addi (IntOp.subi 0#32 (IntOp.subi (BitVec.ofNat 32 k) 126#32)) 127#32 = BitVec.ofNat 32 (253 - k) := by
        have := (by decide +kernel : ∀ k : Fin 253,
          IntOp.addi (IntOp.subi 0#32 (IntOp.subi (BitVec.ofNat 32 k.val) 126#32)) 127#32
          = BitVec.ofNat 32 (253 - k.val)) ⟨k, by omega⟩
        exact this
      rw [this, wordAt_eq _ (by omega), if_neg (by omega), if_neg (by omega)]
      congr 2; push_cast [Nat.cast_sub (show k ≤ 253 by omega)]; ring

theorem exp2_int (e : ℤ) : Ideal.exp2 ((e : ℝ) : EReal) = (((2 : ℝ) ^ e : ℝ) : EReal) := by
  rw [Ideal.exp2_coe]; congr 1; exact Real.rpow_intCast 2 e

end Cert.Exponent

end
-- ==== Proof.Model.lean ====
/- Attention over one head, in numbers: the quantised queries of a block, the scores, the window of keys. The kernel's
   spelling of a value and the reference's are shown equal here, where the queries are finite. -/
module

public import proofs.«01_k».proof.Proof.Scalars
public import proofs.«01_k».proof.Proof.Softmax
public import proofs.«01_k».proof.Proof.Exponent

@[expose] public section

noncomputable section

namespace Cert.Model

open Idealize.ShloMosaic

/-- Row `r` of block `n`. -/
def pos (n r : Fin 128) : Fin 16384 := ⟨n.val * 128 + r.val, by omega⟩

/-- Lane `d` of head `h`. -/
def lane (h : Fin 8) (d : Fin 128) : Fin 1024 := ⟨h.val * 128 + d.val, by omega⟩

variable (x : Fin 128 → Fin 128 → EReal)

/-- The mean of a column of queries. -/
def mean (d : Fin 128) : EReal := (∑ r, x r d) * Ideal.ofBits .f32 0x3C000000#32

/-- The queries less their column means. -/
def ctr (r d : Fin 128) : EReal := x r d - mean x d

/-- The largest magnitude of the centred queries. -/
def top : EReal := Finset.univ.sup fun d => Finset.univ.sup fun r => max (ctr x r d) (-ctr x r d)

/-- The largest magnitude over 448. -/
def ratio : EReal := top x * Ideal.ofBits .f32 0x3B124925#32

/-- The scale of the block. -/
def scale : EReal := Exponent.pow2 (Exponent.expo (ratio x))

/-- The codes of the block. -/
def quant (r d : Fin 128) : EReal :=
  min (Ideal.ofBits .f32 0x43E00000#32) (max (Ideal.ofBits .f32 0xC3E00000#32)
    (ctr x r d * Exponent.pow2 (IntOp.subi 0#32 (Exponent.expo (ratio x)))))

/-- A score, the mean's part added back. -/
def score (kk : Fin 128 → Fin 16384 → EReal) (sk : Fin 16384 → EReal) (sm : EReal) (r : Fin 128) (κ : Fin 16384) : EReal :=
  sk κ * (scale x * (∑ d, quant x r d * kk d κ) + ∑ d, mean x d * kk d κ) * sm

/-- The causal window of 1536 keys that ends at row `r` of block `n`. -/
def near (n r : Fin 128) (κ : Fin 16384) : Prop := κ.val ≤ n.val * 128 + r.val ∧ n.val * 128 + r.val < κ.val + 1536

instance (n r : Fin 128) : DecidablePred (near n r) := fun κ => by unfold near; infer_instance

/-- Every entry is a real number within the range of bf16. -/
def Bounded : Prop := ∀ r d, ∃ a : ℝ, x r d = (a : EReal) ∧ |a| ≤ 2 ^ 128

variable {x}

theorem mean_ref (d : Fin 128) : Ideal.div (∑ r, x r d) (Ideal.ofBits .f32 0x43000000#32) = mean x d := by
  unfold mean
  rw [Scalars.ofBits_128, Scalars.ofBits_inv128]
  unfold Ideal.div
  rw [if_neg (by exact_mod_cast (by norm_num : (128 : ℝ) ≠ 0)), ← EReal.coe_inv]
  norm_num

/-- The constant next to `1 / 448`. -/
theorem ofBits_ratio : ∃ r : ℝ, Ideal.ofBits .f32 0x3B124925#32 = (r : EReal) ∧ 0 ≤ r ∧ r ≤ 1 / 256 := by
  refine ⟨_, by simp [Ideal.ofBits, Ideal.ieee, -EReal.coe_mul]; rfl, ?_, ?_⟩
  · norm_num
  · norm_num

theorem ctr_real (hx : Bounded x) (r d : Fin 128) : ∃ a : ℝ, ctr x r d = (a : EReal) ∧ |a| ≤ 2 ^ 129 := by
  choose f hf hb using hx
  refine ⟨f r d - (∑ r, f r d) * (1 / 128), ?_, ?_⟩
  · unfold ctr mean
    rw [Scalars.ofBits_inv128, hf r d, Finset.sum_congr rfl fun r _ => hf r d]
    push_cast
    rfl
  · have h1 : |∑ r, f r d| ≤ 128 * 2 ^ 128 := by
      refine (Finset.abs_sum_le_sum_abs _ _).trans ((Finset.sum_le_sum fun r _ => hb r d).trans ?_)
      simp
    have h2 := hb r d
    rw [abs_le] at h1 h2 ⊢
    constructor <;> linarith [h1.1, h1.2, h2.1, h2.2]

theorem top_nonneg : 0 ≤ top x := by
  refine le_trans ?_ (Finset.le_sup (f := fun d => Finset.univ.sup fun r => max (ctr x r d) (-ctr x r d)) (Finset.mem_univ 0))
  refine le_trans ?_ (Finset.le_sup (f := fun r => max (ctr x r 0) (-ctr x r 0)) (Finset.mem_univ 0))
  rcases le_total 0 (ctr x 0 0) with h | h
  · exact le_max_of_le_left h
  · exact le_max_of_le_right (by simpa using EReal.neg_le_neg_iff.2 h)

theorem top_le (hx : Bounded x) : top x ≤ ((2 ^ 129 : ℝ) : EReal) := by
  refine Finset.sup_le fun d _ => Finset.sup_le fun r _ => ?_
  obtain ⟨a, ha, hb⟩ := ctr_real hx r d
  rw [ha]
  rw [abs_le] at hb
  refine max_le (by exact_mod_cast hb.2) ?_
  rw [← EReal.coe_neg]
  exact EReal.coe_le_coe_iff.2 (by linarith [hb.1])

theorem ratio_nonneg : 0 ≤ ratio x := by
  obtain ⟨r, hr, h0, -⟩ := ofBits_ratio
  unfold ratio
  rw [hr]
  exact mul_nonneg top_nonneg (by exact_mod_cast h0)

theorem ratio_lt (hx : Bounded x) : ratio x < (((2 : ℝ) ^ (126 : ℤ) : ℝ) : EReal) := by
  obtain ⟨r, hr, h0, h1⟩ := ofBits_ratio
  unfold ratio
  rw [hr]
  refine lt_of_le_of_lt (mul_le_mul_of_nonneg_right (top_le hx) (by exact_mod_cast h0)) ?_
  rw [← EReal.coe_mul, EReal.coe_lt_coe_iff]
  calc (2 : ℝ) ^ 129 * r ≤ 2 ^ 129 * (1 / 256) := by gcongr
    _ < 2 ^ (126 : ℤ) := by norm_num

theorem scale_ref (hx : Bounded x) : Ideal.exp2 (Exponent.refExpo (ratio x)) = scale x := by
  obtain ⟨e, h1, h2, -⟩ := Exponent.expo_spec ratio_nonneg (ratio_lt hx)
  rw [h1, Exponent.exp2_int]
  exact h2.symm

theorem inverse_ref (hx : Bounded x) :
    Ideal.exp2 (0 - Exponent.refExpo (ratio x)) = Exponent.pow2 (IntOp.subi 0#32 (Exponent.expo (ratio x))) := by
  obtain ⟨e, h1, -, h3⟩ := Exponent.expo_spec ratio_nonneg (ratio_lt hx)
  rw [h1, h3, ← Exponent.exp2_int, zero_sub]
  push_cast
  rfl

end Cert.Model

end
-- ==== Proof.Pre.lean ====
/- What the precondition says of the arguments: the queries are real numbers within the range of bf16, the key scales are
   finite and not negative. -/
module

public import proofs.«01_k».proof.Defs
public import proofs.«01_k».proof.Proof.Model
public import Idealize.ShloMosaic.Lib.ReduceAll
public import Idealize.ShloMosaic.Lib.Pointwise

@[expose] public section

set_option maxRecDepth 16384

noncomputable section

namespace Cert.Pre_in_range

open Idealize.ShloMosaic

instance facts : Facts where
  bcast_S_S4x16384x1024 := by decide
  reducesTo_S4x16384x1024_S_d0_1_2 := by decide
  h_S_ := by decide
  bcast_S_S4x1x16384 := by decide
  reducesTo_S4x1x16384_S_d0_1_2 := by decide

theorem ofBits_max : Ideal.ofBits .bf16 0x7F7F#16 = (((2 ^ 8 - 1) * 2 ^ 120 : ℝ) : EReal) := by
  simp [Ideal.ofBits, Ideal.ieee, -EReal.coe_mul]; norm_num

theorem ofBits_top : Ideal.ofBits .f32 0x7F800000#32 = (⊤ : EReal) := by
  simp [Ideal.ofBits, Ideal.ieee]

instance : Subsingleton S_.Idx := ⟨fun a b => funext fun i => i.elim0⟩

theorem spec (X : FVec Ideal S4x16384x1024 .bf16) (K : FVec Ideal S4x128x16384 .fp8e4m3) (S : FVec Ideal S4x1x16384 .f32)
    (V : FVec Ideal S4x16384x128 .fp8e4m3) (s : FVec Ideal S4x1x128 .f32) (j : S_.Idx) (h : fn X K S V s j = 1#1) :
    (∀ z, ∃ a : ℝ, X z = (a : EReal) ∧ |a| ≤ 2 ^ 128) ∧ ∀ z, 0 ≤ S z ∧ S z ≠ ⊤ := by
  obtain ⟨h1, h3⟩ := IntOp.andi_eq_one.1 h
  obtain ⟨h1, h2⟩ := IntOp.andi_eq_one.1 h1
  have g1 := fun z => Host.reduce_andi_all _ _ _ _ j h1 z
  have g2 := fun z => Host.reduce_andi_all _ _ _ _ j h2 z
  have g3 := fun z => Host.reduce_andi_all _ _ _ _ j h3 z
  refine ⟨fun z => ?_, fun z => ⟨?_, ?_⟩⟩
  · have e : max (X z) (-X z) ≤ Ideal.ofBits .bf16 0x7F7F#16 := (Ideal.cmp_ole_eq_one _ _).1 (g1 z)
    rw [ofBits_max] at e
    obtain ⟨e1, e2⟩ := max_le_iff.1 e
    generalize X z = x at e1 e2
    induction x using EReal.rec with
    | bot => exact absurd (EReal.neg_bot ▸ e2) (not_le.2 (EReal.coe_lt_top _))
    | top => exact absurd e1 (not_le.2 (EReal.coe_lt_top _))
    | coe a =>
      refine ⟨a, rfl, ?_⟩
      rw [← EReal.coe_neg] at e2
      have f1 := EReal.coe_le_coe_iff.1 e1
      have f2 := EReal.coe_le_coe_iff.1 e2
      rw [abs_le]
      constructor <;> norm_num at f1 f2 ⊢ <;> linarith
  · have e : Ideal.ofBits .f32 0x00000000#32 ≤ S z := (Ideal.cmp_oge_eq_one _ _).1 (g2 z)
    have z0 : Ideal.ofBits .f32 0x00000000#32 = (0 : EReal) := by simp [Ideal.ofBits, Ideal.ieee]
    rwa [z0] at e
  · have e : S z < Ideal.ofBits .f32 0x7F800000#32 := (Ideal.cmp_olt_eq_one _ _).1 (g3 z)
    rw [ofBits_top] at e
    exact e.ne

end Cert.Pre_in_range

end
-- ==== Proof.Head.lean ====
/- One head of the attention call, written once. The printed kernel is eight heads in a row, each cut into named
   payloads at different places; each of them is, operation for operation, the vector program below over the head's own
   tile of queries, row of query means, key tiles and value tiles. Nothing here depends on the numbers. -/
module

public import proofs.«01_k».proof.Proof.Gen.KernelIdeal.Skeleton

@[expose] public section

noncomputable section

namespace Cert.Head

open Idealize.ShloMosaic Idealize.SL.Sem
open Cert.KernelIdeal Cert.KernelIdeal.Gen

variable {F : FTy → Type} [FloatOps F] [Named F]

/-- The number of a key tile of the window, as an index. -/
def no (j : ℕ) : Fin 13 := Fin.ofNat 13 j

/-- The centred queries: the tile less its column means. -/
def centred (x : Vec F S1x128x128 .bf16) (mq : FVec F S1x128 .bf16) : FVec F S128x128 .f32 :=
  subf (extf .f32 (shapeCast S128x128 x shapeCasts_S1x128x128_S128x128) bitsLt_bf16_f32)
    (broadcastTo S128x128 (extf .f32 mq bitsLt_bf16_f32) broadcasts_S1x128_S128x128)

/-- The largest magnitude of the tile over 448, in every lane. -/
def ratio (q : FVec F S128x128 .f32) : FVec F S1x128 .f32 :=
  mulf
    (broadcastTo S1x128
      (shapeCast S1x1
        (shapeCast S1x1
          (multiReduction .maximumf [1] S1
            (shapeCast S1x128
              (multiReduction .maximumf [0] S128 (absf q) 0xFF800000#32 reduces_S128x128_S128 (.inl rfl) rfl)
              shapeCasts_S128_S1x128)
            0xFF800000#32 reduces_S1x128_S1 (.inl rfl) rfl)
          shapeCasts_S1_S1x1)
        shapeCasts_S1x1_S1x1)
      broadcasts_S1x1_S1x128)
    (broadcast S1x128 (Scalar.ofBits .f32 0x3B124925#32))

/-- One step of the search for the exponent field: add the bit unless the power it would stand for is above `y`. -/
def step (y : FVec F S1x128 .f32) (f : IVec S1x128 32) (b : BitVec 32) : IVec S1x128 32 :=
  select
    (cmpf .olt y (bitcastToFloat .f32 (shli (addi f (broadcast S1x128 b)) (broadcast S1x128 23#32))))
    f (addi f (broadcast S1x128 b))

/-- The exponent field of `y`, bit by bit from the top. -/
def field (y : FVec F S1x128 .f32) : IVec S1x128 32 :=
  step y (step y (step y (step y (step y (step y (step y (step y (broadcast S1x128 0#32)
    128#32) 64#32) 32#32) 16#32) 8#32) 4#32) 2#32) 1#32

/-- The exponent of the scale. -/
def expo (y : FVec F S1x128 .f32) : IVec S1x128 32 :=
  select (cmpi .eq (field y) (broadcast S1x128 0#32)) (broadcast S1x128 0#32)
    (subi (field y) (broadcast S1x128 126#32))

/-- The power of two of an exponent, through the word that holds it. -/
def pow2 (e : IVec S1x128 32) : FVec F S1x128 .f32 :=
  bitcastToFloat .f32 (shli (addi e (broadcast S1x128 127#32)) (broadcast S1x128 23#32))

/-- The codes of the tile: over its scale, clipped. -/
def codes (q : FVec F S128x128 .f32) (e : IVec S1x128 32) : FVec F S128x128 .fp8e4m3 :=
  truncf .fp8e4m3
    (minimumf (broadcast S128x128 (Scalar.ofBits .f32 0x43E00000#32))
      (maximumf (broadcast S128x128 (Scalar.ofBits .f32 0xC3E00000#32))
        (mulf q (broadcastTo S128x128 (pow2 (subi (broadcast S1x128 0#32) e)) broadcasts_S1x128_S128x128))))
    bitsLt_fp8e4m3_f32

/-- The key scales times the query scale. -/
def scales (sk : FVec F S1x1664 .f32) (sq : FVec F S1x128 .f32) : FVec F S1x1664 .f32 :=
  mulf sk (concatenate S1x1664 1 [⟨S1x128, sq⟩, ⟨S1x128, sq⟩, ⟨S1x128, sq⟩, ⟨S1x128, sq⟩, ⟨S1x128, sq⟩, ⟨S1x128, sq⟩,
    ⟨S1x128, sq⟩, ⟨S1x128, sq⟩, ⟨S1x128, sq⟩, ⟨S1x128, sq⟩, ⟨S1x128, sq⟩, ⟨S1x128, sq⟩, ⟨S1x128, sq⟩]
    concatenates_S1x128_S1x128_S1x128_S1x128_S1x128_S1x128_S1x128_S1x128_S1x128_S1x128_S1x128_S1x128_S1x128_S1x1664_d1)

/-- A tile of a row of 1664 lies in it. -/
theorem slices_tile (j : Fin 13) : S1x1664.Slices ![0, 128 * j.val] S1x128 := by
  revert j; decide

/-- The `j`-th tile of a row of 1664. -/
def tile (A : FVec F S1x1664 .f32) (j : ℕ) : FVec F S1x128 .f32 :=
  extractStridedSlice S1x128 ![0, 128 * (no j).val] A (slices_tile (no j))

/-- The scores of one key tile. -/
def score (qc : FVec F S128x128 .fp8e4m3) (A B : FVec F S1x1664 .f32) (kt : ℕ → Vec F S1x128x128 .fp8e4m3) (j : ℕ) :
    FVec F S128x128 .f32 :=
  addf
    (mulf
      (matmul dot_S128x128_S128x128_S128x128_1_0_0_1_n_n none qc
        (shapeCast S128x128 (kt j) shapeCasts_S1x128x128_S128x128) (constant S128x128 .f32 0x00000000#32))
      (broadcastTo S128x128 (tile A j) broadcasts_S1x128_S128x128))
    (broadcastTo S128x128 (tile B j) broadcasts_S1x128_S128x128)

/-- A tile of scores, stored and loaded again. -/
def kept (t : FVec F S128x128 .f32) : FVec F S128x128 .f32 :=
  shapeCast S128x128 (shapeCast S1x128x128 t shapeCasts_S128x128_S1x128x128) shapeCasts_S1x128x128_S128x128

/-- The row maximum less eight. -/
def shift (m : FVec F S128x128 .f32) : FVec F S128x1 .f32 :=
  subf
    (shapeCast S128x1
      (multiReduction .maximumf [1] S128 m 0xFF800000#32 reduces_S128x128_S128_2 (.inl rfl) rfl) shapeCasts_S128_S128x1)
    (broadcast S128x1 (Scalar.ofBits .f32 0x41000000#32))

/-- The weights of a tile of scores. -/
def weight (t : FVec F S128x128 .f32) (s : FVec F S128x1 .f32) : FVec F S128x128 .f32 :=
  exp2 (subf t (broadcastTo S128x128 s broadcasts_S128x1_S128x128))

/-- The tile of zeros that the selections and sums start from. -/
def zeros : FVec F S128x128 .f32 := broadcast S128x128 (Scalar.ofBits .f32 0x00000000#32)

/-- The tile of `-∞`. -/
def bots : FVec F S128x128 .f32 := broadcast S128x128 (Scalar.ofBits .f32 0xFF800000#32)

/-- Weights clipped to the range of the codes. -/
def clip (p : FVec F S128x128 .f32) : FVec F S128x128 .f32 :=
  minimumf (broadcast S128x128 (Scalar.ofBits .f32 0x43E00000#32)) (maximumf zeros p)

/-- The product of a tile of clipped weights with its tile of values. -/
def product (p : FVec F S128x128 .f32) (v : Vec F S1x128x128 .fp8e4m3) : FVec F S128x128 .f32 :=
  matmul dot_S128x128_S128x128_S128x128_1_0_0_1_n_n none (truncf .fp8e4m3 p bitsLt_fp8e4m3_f32)
    (shapeCast S128x128 v shapeCasts_S1x128x128_S128x128) (constant S128x128 .f32 0x00000000#32)

/-- The weighted values over the sum of the weights. -/
def final (pv l : FVec F S128x128 .f32) (vs : FVec F S1x128 .f32) : FVec F S1x128x128 .bf16 :=
  shapeCast S1x128x128
    (truncf .bf16
      (divf (mulf pv (broadcastTo S128x128 vs broadcasts_S1x128_S128x128))
        (broadcastTo S128x128
          (shapeCast S128x1
            (multiReduction .add [1] S128 l 0x00000000#32 reduces_S128x128_S128_2 (.inl rfl) rfl) shapeCasts_S128_S128x1)
          broadcasts_S128x1_S128x128))
      bitsLt_bf16_f32)
    shapeCasts_S128x128_S1x128x128

/-- `n` further terms taken into an accumulator. -/
def fold {α : Type} (z : α) (g : ℕ → α → α) (n : ℕ) : α := Nat.rec z g n

/-- The steady part: the first and the last key tile share one tile of scores, the eleven between are whole. -/
def steady (t : ℕ → FVec F S128x128 .f32) (vt : ℕ → Vec F S1x128x128 .fp8e4m3) (vs : FVec F S1x128 .f32) :
    FVec F S1x128x128 .bf16 :=
  let edge := select k0_pay2 (t 12) (t 0)
  let s := shift (fold edge (fun k r => maximumf r (t (k + 1))) 11)
  let p := weight edge s
  final
    (fold (addf (product (select k0_pay2 (clip p) zeros) (vt 12)) (product (select k0_pay2 zeros (clip p)) (vt 0)))
      (fun k r => addf r (product (clip (weight (kept (t (k + 1))) s)) (vt (k + 1)))) 11)
    (fold p (fun k r => addf r (weight (kept (t (k + 1))) s)) 11)
    vs

/-- The causal mask of the `j`-th key tile in the ramp, at block `g`. -/
def mask (g : BitVec 32) (j : ℕ) : IVec S128x128 1 :=
  cmpi .sle
    (addi (iota .tc S128x128 32 [1] iota_S128x128_d1_w32) (broadcast S128x128 (BitVec.ofNat 32 (128 * j))))
    (addi (iota .tc S128x128 32 [0] iota_S128x128_d0_w32) (broadcast S128x128 (Scalar.muli g 128#32)))

/-- The ramp: all thirteen key tiles under the causal mask. -/
def ramp (g : BitVec 32) (t : ℕ → FVec F S128x128 .f32) (vt : ℕ → Vec F S1x128x128 .fp8e4m3) (vs : FVec F S1x128 .f32) :
    FVec F S1x128x128 .bf16 :=
  let u := fun j => select (mask g j) (t j) bots
  let s := shift (fold bots (fun k r => maximumf r (u k)) 13)
  final
    (fold zeros (fun k r => addf r (product (clip (weight (kept (u k)) s)) (vt k))) 13)
    (fold zeros (fun k r => addf r (weight (kept (u k)) s)) 13)
    vs

/-- The head's codes, from its queries. -/
def codesOf (x : Vec F S1x128x128 .bf16) (mq : FVec F S1x128 .bf16) : FVec F S128x128 .fp8e4m3 :=
  codes (centred x mq) (expo (ratio (centred x mq)))

/-- The head's scale, from its queries. -/
def scaleOf (x : Vec F S1x128x128 .bf16) (mq : FVec F S1x128 .bf16) : FVec F S1x128 .f32 :=
  pow2 (expo (ratio (centred x mq)))

/-! ## The tiles that a head loads -/

/-- A head's lanes of the queries. -/
theorem lanes_inb (h : Fin 8) : ∀ a, (![0, 0, 128 * h.val] : Fin 3 → ℕ) a + S1x128x128.size a ≤ S1x128x1024.size a := by
  revert h; decide

/-- A head's lanes of the queries. -/
def xTile (X : Vec F S1x128x1024 .bf16) (h : Fin 8) : Vec F S1x128x128 .bf16 :=
  fun z => X ((Rect.unit (s := S1x128x1024) ![0, 0, 128 * h.val] S1x128x128.size (lanes_inb h)).idx z)

theorem slices_lanes (h : Fin 8) : S1x1024.Slices ![0, 128 * h.val] S1x128 := by
  revert h; decide

/-- A head's lanes of the column means. -/
def mqTile (X : Vec F S1x128x1024 .bf16) (h : Fin 8) : FVec F S1x128 .bf16 :=
  extractStridedSlice S1x128 ![0, 128 * h.val] (k0_pay1224 X) (slices_lanes h)

theorem row_inb (h : Fin 8) : ∀ a, (![h.val, 0] : Fin 2 → ℕ) a + S1x1664.size a ≤ S8x1664.size a := by
  revert h; decide

/-- A head's row of the correction. -/
def row (B : Vec F S8x1664 .f32) (h : Fin 8) : Vec F S1x1664 .f32 :=
  fun z => B ((Rect.unit (s := S8x1664) ![h.val, 0] S1x1664.size (row_inb h)).idx z)

/-- The window's key scales, times the score constant. -/
def skSpan (S : Vec F S1x1x16384 .f32) (i : grid0.Coords) : FVec F S1x1664 .f32 :=
  k0_pay1222 (fun z => S ((Rect.unit (s := S1x1x16384) (k0_off2 i) S1x1x1664.size (k0_off2_inb i)).idx z))

/-- The correction of all heads: the means against the window's keys, scaled. -/
def corr (X : Vec F S1x128x1024 .bf16) (K : Vec F S1x128x16384 .fp8e4m3) (S : Vec F S1x1x16384 .f32) (i : grid0.Coords) :
    FVec F S8x1664 .f32 :=
  k0_pay1 (skSpan S i)
    (k0_pay1227 (fun z => K ((Rect.unit (s := S1x128x16384) (k0_off1 i) S1x128x1664.size (k0_off1_inb i)).idx z)) X)

/-- A key tile of the steady part. -/
def ktB (K : Vec F S1x128x16384 .fp8e4m3) (i : grid0.Coords) (hi : k0_cond1 i = 1#1) (j : ℕ) : Vec F S1x128x128 .fp8e4m3 :=
  fun z => K ((Rect.unit (s := S1x128x16384) (k0_off3 i (BitVec.ofNat 32 (128 * (no j).val))) S1x128x128.size
    (k0_off3_inb i hi (no j))).idx z)

/-- A value tile of the steady part. -/
def vtB (V : Vec F S1x16384x128 .fp8e4m3) (i : grid0.Coords) (hi : k0_cond1 i = 1#1) (j : ℕ) : Vec F S1x128x128 .fp8e4m3 :=
  fun z => V ((Rect.unit (s := S1x16384x128) (k0_off4 i (BitVec.ofNat 32 (128 * (no j).val))) S1x128x128.size
    (k0_off4_inb i hi (no j))).idx z)

/-- A key tile of the ramp. -/
def ktA (K : Vec F S1x128x16384 .fp8e4m3) (i : grid0.Coords) (hi : k0_cond2 i = 1#1) (j : ℕ) : Vec F S1x128x128 .fp8e4m3 :=
  fun z => K ((Rect.unit (s := S1x128x16384) (k0_off5 i (BitVec.ofNat 32 (128 * (no j).val))) S1x128x128.size
    (k0_off5_inb i hi (no j))).idx z)

/-- A value tile of the ramp. -/
def vtA (V : Vec F S1x16384x128 .fp8e4m3) (i : grid0.Coords) (hi : k0_cond2 i = 1#1) (j : ℕ) : Vec F S1x128x128 .fp8e4m3 :=
  fun z => V ((Rect.unit (s := S1x16384x128) (k0_off6 i (BitVec.ofNat 32 (128 * (no j).val))) S1x128x128.size
    (k0_off6_inb i hi (no j))).idx z)

/-- What the steady part stores for head `h`; the block of queries that the scale is computed from is named apart. -/
def outB (X X' X'' : Vec F S1x128x1024 .bf16) (K : Vec F S1x128x16384 .fp8e4m3) (S : Vec F S1x1x16384 .f32)
    (V : Vec F S1x16384x128 .fp8e4m3) (s : Vec F S1x1x128 .f32) (i : grid0.Coords) (hi : k0_cond1 i = 1#1) (h : Fin 8) :
    FVec F S1x128x128 .bf16 :=
  steady
    (score (codesOf (xTile X h) (mqTile X h)) (scales (skSpan S i) (scaleOf (xTile X' h) (mqTile X'' h)))
      (row (corr X K S i) h) (ktB K i hi))
    (vtB V i hi) (k0_pay1223 s)

/-- What the ramp stores for head `h`; the block of queries that the scale is computed from is named apart. -/
def outA (X X' X'' : Vec F S1x128x1024 .bf16) (K : Vec F S1x128x16384 .fp8e4m3) (S : Vec F S1x1x16384 .f32)
    (V : Vec F S1x16384x128 .fp8e4m3) (s : Vec F S1x1x128 .f32) (i : grid0.Coords) (hi : k0_cond2 i = 1#1) (h : Fin 8) :
    FVec F S1x128x128 .bf16 :=
  ramp (BitVec.ofNat 32 (i 1).val)
    (score (codesOf (xTile X h) (mqTile X h)) (scales (skSpan S i) (scaleOf (xTile X' h) (mqTile X'' h)))
      (row (corr X K S i) h) (ktA K i hi))
    (vtA V i hi) (k0_pay1223 s)

/-- The stored codes of head `h`. -/
def outQ (X : Vec F S1x128x1024 .bf16) (h : Fin 8) : FVec F S1x128x128 .fp8e4m3 :=
  shapeCast S1x128x128 (codesOf (xTile X h) (mqTile X h)) shapeCasts_S128x128_S1x128x128

/-- The stored scale of head `h`. -/
def outS (X : Vec F S1x128x1024 .bf16) (h : Fin 8) : FVec F S1x1x1x128 .f32 :=
  shapeCast S1x1x1x128 (scaleOf (xTile X h) (mqTile X h)) shapeCasts_S1x128_S1x1x1x128

end Cert.Head

end
-- ==== Proof.Lanes.lean ====
/- A block of eight heads, head by head. -/
module

public import proofs.«01_k».proof.Proof.Gen.KernelIdeal.Frame
public import proofs.«01_k».proof.Proof.Head
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Pieces

open Idealize.ShloMosaic Idealize.ShloMosaic.TcCoe Idealize.SL.Sem
open Cert.KernelIdeal Cert.KernelIdeal.Gen

variable (m : (ℓ : Loc nD τ sig) → Buf (Elt Ideal) ℓ)

/-- The head whose lanes hold an index of a block. -/
def head (y : S1x128x1024.Idx) : Fin 8 := ⟨(y 2).val / 128, by have := (y 2).isLt; change (y 2).val < 1024 at this; omega⟩

/-- An index of a block inside its head's tile. -/
def inside (y : S1x128x1024.Idx) : S1x128x128.Idx := ix3 0 (y 1) ⟨(y 2).val % 128, Nat.mod_lt _ (by decide)⟩

/-- A value stored in head `k`'s lanes, as the value of the index's own head. -/
theorem at_head {α : Type} {p : α} (g : Fin 8 → S1x128x128.Idx → α) (k : Fin 8) {x : S1x128x128.Idx} {y : S1x128x1024.Idx}
    (h1 : (y 1).val = (x 1).val) (h2 : (y 2).val = 128 * k.val + (x 2).val) (hp : p = g k x) :
    p = g (head y) (inside y) := by
  have hx : (x 2).val < 128 := (x 2).isLt
  have e : head y = k := Fin.ext (by show (y 2).val / 128 = k.val; omega)
  have f : inside y = x := by
    funext a
    refine Fin.ext ?_
    match a with
    | ⟨0, _⟩ =>
      have : (x 0).val < 1 := (x 0).isLt
      show 0 = (x 0).val
      omega
    | ⟨1, _⟩ => exact h1
    | ⟨2, _⟩ =>
      show (y 2).val % 128 = (x 2).val
      omega
  rw [e, f, hp]

/-- A value stored in row `k` of a small block, as the value of the index's own row. -/
theorem at_row {α : Type} {p : α} (g : Fin 8 → S1x1x1x128.Idx → α) (k : Fin 8) {x : S1x1x1x128.Idx} {y : S1x1x8x128.Idx}
    (h2 : (y 2).val = k.val + (x 2).val) (h3 : (y 3).val = (x 3).val) (hp : p = g k x) :
    p = g (y 2) (ix4 0 0 0 (y 3)) := by
  have hx : (x 2).val < 1 := (x 2).isLt
  have e : y 2 = k := Fin.ext (by show (y 2).val = k.val; omega)
  have f : (ix4 0 0 0 (y 3) : S1x1x1x128.Idx) = x := by
    funext a
    refine Fin.ext ?_
    match a with
    | ⟨0, _⟩ =>
      have : (x 0).val < 1 := (x 0).isLt
      show 0 = (x 0).val
      omega
    | ⟨1, _⟩ =>
      have : (x 1).val < 1 := (x 1).isLt
      show 0 = (x 1).val
      omega
    | ⟨2, _⟩ =>
      show 0 = (x 2).val
      omega
    | ⟨3, _⟩ => exact h3
  rw [e, f, hp]

/-- The block of queries as the body's window holds it. -/
def held (c : Dev nD) (t : Fin cfg0.N) : Vec Ideal S1x128x1024 .bf16 :=
  (ms0_0 t).view.read (Elt Ideal) ((hs0_0 t).unread (iblk m c 0 t))

/-- The block of queries as the body loads it whole. -/
def loaded (c : Dev nD) (t : Fin cfg0.N) : Vec Ideal S1x128x1024 .bf16 :=
  View.ld ((ms0_0 t).view.read (Elt Ideal) ((hs0_0 t).unread (iblk m c 0 t)))
    (Rect.unit ![0, 0, 0] ![1, 128, 1024] inb_S1x128x1024_S1x128x1024_0_0_0)

theorem held_eq (c : Dev nD) (t : Fin cfg0.N) : held m c t = iblk m c 0 t :=
  (hs0_0 t).read_unread _

theorem loaded_eq (c : Dev nD) (t : Fin cfg0.N) : loaded m c t = iblk m c 0 t :=
  (View.ld_unit_lit' (S := S1x128x1024) (off := ![0, 0, 0]) inb_S1x128x1024_S1x128x1024_0_0_0 _ (by decide)).trans ((hs0_0 t).read_unread _)

end Cert.Pieces

end
-- ==== Proof.Blocks.lean ====
/- The blocks of the kernel's windows as parts of their arrays: grid point `t` is block `t % 128` of sequence `t / 128`. -/
module

public import proofs.«01_k».proof.Proof.Gen.KernelIdeal.Value
public import proofs.«01_k».proof.Proof.Lanes
public import proofs.«01_k».proof.Proof.Model

@[expose] public section

set_option maxRecDepth 16384

noncomputable section

namespace Cert.Blocks

open Idealize.ShloMosaic Idealize.ShloMosaic.TcCoe Idealize.SL.Sem
open Cert.KernelIdeal Cert.KernelIdeal.Gen
open Cert.Model (pos lane)

variable (m : (ℓ : Loc nD τ sig) → Buf (Elt Ideal) ℓ)

/-- The sequence of a grid point. -/
def seqOf (t : Fin cfg0.N) : Fin 4 := ⟨t.val / 128, by have : t.val < 512 := t.isLt; omega⟩

/-- The block of a grid point in its sequence. -/
def blkOf (t : Fin cfg0.N) : Fin 128 := ⟨t.val % 128, Nat.mod_lt _ (by decide)⟩

theorem coords_1 : ∀ t : Fin cfg0.N, (grid0.coords t 1).val = (blkOf t).val :=
  (by decide +kernel : ∀ t : Fin grid0.N, (grid0.coords t 1).val = t.val % 128)

theorem idx0 : ∀ t : Fin cfg0.N, win0_0.index t (0 : Fin 3) = (seqOf t).val ∧ win0_0.index t (1 : Fin 3) = (blkOf t).val
    ∧ win0_0.index t (2 : Fin 3) = 0 :=
  (by decide +kernel : ∀ t : Fin grid0.N, win0_0.index t (0 : Fin 3) = t.val / 128 ∧ win0_0.index t (1 : Fin 3) = t.val % 128
    ∧ win0_0.index t (2 : Fin 3) = 0)

theorem idx1 : ∀ t : Fin cfg0.N, win0_1.index t (0 : Fin 3) = (seqOf t).val ∧ win0_1.index t (1 : Fin 3) = 0
    ∧ win0_1.index t (2 : Fin 3) = 0 :=
  (by decide +kernel : ∀ t : Fin grid0.N, win0_1.index t (0 : Fin 3) = t.val / 128 ∧ win0_1.index t (1 : Fin 3) = 0
    ∧ win0_1.index t (2 : Fin 3) = 0)

theorem idx2 : ∀ t : Fin cfg0.N, win0_2.index t (0 : Fin 3) = (seqOf t).val ∧ win0_2.index t (1 : Fin 3) = 0
    ∧ win0_2.index t (2 : Fin 3) = 0 :=
  (by decide +kernel : ∀ t : Fin grid0.N, win0_2.index t (0 : Fin 3) = t.val / 128 ∧ win0_2.index t (1 : Fin 3) = 0
    ∧ win0_2.index t (2 : Fin 3) = 0)

theorem idx3 : ∀ t : Fin cfg0.N, win0_3.index t (0 : Fin 3) = (seqOf t).val ∧ win0_3.index t (1 : Fin 3) = 0
    ∧ win0_3.index t (2 : Fin 3) = 0 :=
  (by decide +kernel : ∀ t : Fin grid0.N, win0_3.index t (0 : Fin 3) = t.val / 128 ∧ win0_3.index t (1 : Fin 3) = 0
    ∧ win0_3.index t (2 : Fin 3) = 0)

theorem idx4 : ∀ t : Fin cfg0.N, win0_4.index t (0 : Fin 3) = (seqOf t).val ∧ win0_4.index t (1 : Fin 3) = 0
    ∧ win0_4.index t (2 : Fin 3) = 0 :=
  (by decide +kernel : ∀ t : Fin grid0.N, win0_4.index t (0 : Fin 3) = t.val / 128 ∧ win0_4.index t (1 : Fin 3) = 0
    ∧ win0_4.index t (2 : Fin 3) = 0)

theorem idx5 : ∀ t : Fin cfg0.N, win0_5.index t (0 : Fin 3) = (seqOf t).val ∧ win0_5.index t (1 : Fin 3) = (blkOf t).val
    ∧ win0_5.index t (2 : Fin 3) = 0 :=
  (by decide +kernel : ∀ t : Fin grid0.N, win0_5.index t (0 : Fin 3) = t.val / 128 ∧ win0_5.index t (1 : Fin 3) = t.val % 128
    ∧ win0_5.index t (2 : Fin 3) = 0)

theorem idx6 : ∀ t : Fin cfg0.N, win0_6.index t (0 : Fin 3) = (seqOf t).val ∧ win0_6.index t (1 : Fin 3) = (blkOf t).val
    ∧ win0_6.index t (2 : Fin 3) = 0 :=
  (by decide +kernel : ∀ t : Fin grid0.N, win0_6.index t (0 : Fin 3) = t.val / 128 ∧ win0_6.index t (1 : Fin 3) = t.val % 128
    ∧ win0_6.index t (2 : Fin 3) = 0)

theorem idx7 : ∀ t : Fin cfg0.N, win0_7.index t (0 : Fin 4) = (seqOf t).val ∧ win0_7.index t (1 : Fin 4) = (blkOf t).val
    ∧ win0_7.index t (2 : Fin 4) = 0 ∧ win0_7.index t (3 : Fin 4) = 0 :=
  (by decide +kernel : ∀ t : Fin grid0.N, win0_7.index t (0 : Fin 4) = t.val / 128 ∧ win0_7.index t (1 : Fin 4) = t.val % 128
    ∧ win0_7.index t (2 : Fin 4) = 0 ∧ win0_7.index t (3 : Fin 4) = 0)

theorem idx8 : ∀ t : Fin cfg0.N, win0_8.index t (0 : Fin 4) = (seqOf t).val ∧ win0_8.index t (1 : Fin 4) = (blkOf t).val
    ∧ win0_8.index t (2 : Fin 4) = 0 ∧ win0_8.index t (3 : Fin 4) = 0 :=
  (by decide +kernel : ∀ t : Fin grid0.N, win0_8.index t (0 : Fin 4) = t.val / 128 ∧ win0_8.index t (1 : Fin 4) = t.val % 128
    ∧ win0_8.index t (2 : Fin 4) = 0 ∧ win0_8.index t (3 : Fin 4) = 0)

/-! ## The input blocks -/

theorem iblk0_at (c : Dev nD) (t : Fin cfg0.N) (r : Fin 128) (l : Fin 1024) :
    iblk m c 0 t (ix3 0 r l) = V m c main_arg0 (ix3 (seqOf t) (pos (blkOf t) r) l) := by
  obtain ⟨e0, e1, e2⟩ := idx0 t
  show V m c main_arg0 (((cfg0.win 0).blk t).view.emb (ix3 0 r l)) = _
  congr 1
  funext a
  refine Fin.ext ?_
  match a with
  | ⟨0, _⟩ => show win0_0.index t (0 : Fin 3) * 1 + 1 * 0 = (seqOf t).val; omega
  | ⟨1, _⟩ => show win0_0.index t (1 : Fin 3) * 128 + 1 * r.val = (blkOf t).val * 128 + r.val; omega
  | ⟨2, _⟩ => show win0_0.index t (2 : Fin 3) * 1024 + 1 * l.val = l.val; omega

theorem iblk1_at (c : Dev nD) (t : Fin cfg0.N) (d : Fin 128) (κ : Fin 16384) :
    iblk m c 1 t (ix3 0 d κ) = V m c main_arg1 (ix3 (seqOf t) d κ) := by
  obtain ⟨e0, e1, e2⟩ := idx1 t
  show V m c main_arg1 (((cfg0.win 1).blk t).view.emb (ix3 0 d κ)) = _
  congr 1
  funext a
  refine Fin.ext ?_
  match a with
  | ⟨0, _⟩ => show win0_1.index t (0 : Fin 3) * 1 + 1 * 0 = (seqOf t).val; omega
  | ⟨1, _⟩ => show win0_1.index t (1 : Fin 3) * 128 + 1 * d.val = d.val; omega
  | ⟨2, _⟩ => show win0_1.index t (2 : Fin 3) * 16384 + 1 * κ.val = κ.val; omega

theorem iblk2_at (c : Dev nD) (t : Fin cfg0.N) (κ : Fin 16384) :
    iblk m c 2 t (ix3 0 0 κ) = V m c main_arg2 (ix3 (seqOf t) 0 κ) := by
  obtain ⟨e0, e1, e2⟩ := idx2 t
  show V m c main_arg2 (((cfg0.win 2).blk t).view.emb (ix3 0 0 κ)) = _
  congr 1
  funext a
  refine Fin.ext ?_
  match a with
  | ⟨0, _⟩ => show win0_2.index t (0 : Fin 3) * 1 + 1 * 0 = (seqOf t).val; omega
  | ⟨1, _⟩ => show win0_2.index t (1 : Fin 3) * 1 + 1 * 0 = 0; omega
  | ⟨2, _⟩ => show win0_2.index t (2 : Fin 3) * 16384 + 1 * κ.val = κ.val; omega

theorem iblk3_at (c : Dev nD) (t : Fin cfg0.N) (κ : Fin 16384) (d : Fin 128) :
    iblk m c 3 t (ix3 0 κ d) = V m c main_arg3 (ix3 (seqOf t) κ d) := by
  obtain ⟨e0, e1, e2⟩ := idx3 t
  show V m c main_arg3 (((cfg0.win 3).blk t).view.emb (ix3 0 κ d)) = _
  congr 1
  funext a
  refine Fin.ext ?_
  match a with
  | ⟨0, _⟩ => show win0_3.index t (0 : Fin 3) * 1 + 1 * 0 = (seqOf t).val; omega
  | ⟨1, _⟩ => show win0_3.index t (1 : Fin 3) * 16384 + 1 * κ.val = κ.val; omega
  | ⟨2, _⟩ => show win0_3.index t (2 : Fin 3) * 128 + 1 * d.val = d.val; omega

theorem iblk4_at (c : Dev nD) (t : Fin cfg0.N) (d : Fin 128) :
    iblk m c 4 t (ix3 0 0 d) = V m c main_arg4 (ix3 (seqOf t) 0 d) := by
  obtain ⟨e0, e1, e2⟩ := idx4 t
  show V m c main_arg4 (((cfg0.win 4).blk t).view.emb (ix3 0 0 d)) = _
  congr 1
  funext a
  refine Fin.ext ?_
  match a with
  | ⟨0, _⟩ => show win0_4.index t (0 : Fin 3) * 1 + 1 * 0 = (seqOf t).val; omega
  | ⟨1, _⟩ => show win0_4.index t (1 : Fin 3) * 1 + 1 * 0 = 0; omega
  | ⟨2, _⟩ => show win0_4.index t (2 : Fin 3) * 128 + 1 * d.val = d.val; omega

/-! ## The output blocks -/

/-- Where an index of a block of queries lies in the array. -/
def wide (t : Fin cfg0.N) (y : S1x128x1024.Idx) : S4x16384x1024.Idx :=
  ix3 (seqOf t) (pos (blkOf t) (y 1)) (lane (Pieces.head y) ((Pieces.inside y) 2))

/-- Where an index of a small block lies in the array. -/
def narrow (t : Fin cfg0.N) (y : S1x1x8x128.Idx) : S4x128x8x128.Idx := ix4 (seqOf t) (blkOf t) (y 2) (y 3)

theorem emb5 (t : Fin cfg0.N) (y : S1x128x1024.Idx) : ((cfg0.win 5).blk t).view.emb y = wide t y := by
  obtain ⟨e0, e1, e2⟩ := idx5 t
  have h0 : (y 0).val < 1 := (y 0).isLt
  funext a
  refine Fin.ext ?_
  match a with
  | ⟨0, _⟩ => show win0_5.index t (0 : Fin 3) * 1 + 1 * (y 0).val = (seqOf t).val; omega
  | ⟨1, _⟩ => show win0_5.index t (1 : Fin 3) * 128 + 1 * (y 1).val = (blkOf t).val * 128 + (y 1).val; omega
  | ⟨2, _⟩ => show win0_5.index t (2 : Fin 3) * 1024 + 1 * (y 2).val = (y 2).val / 128 * 128 + (y 2).val % 128; omega

theorem emb6 (t : Fin cfg0.N) (y : S1x128x1024.Idx) : ((cfg0.win 6).blk t).view.emb y = wide t y := by
  obtain ⟨e0, e1, e2⟩ := idx6 t
  have h0 : (y 0).val < 1 := (y 0).isLt
  funext a
  refine Fin.ext ?_
  match a with
  | ⟨0, _⟩ => show win0_6.index t (0 : Fin 3) * 1 + 1 * (y 0).val = (seqOf t).val; omega
  | ⟨1, _⟩ => show win0_6.index t (1 : Fin 3) * 128 + 1 * (y 1).val = (blkOf t).val * 128 + (y 1).val; omega
  | ⟨2, _⟩ => show win0_6.index t (2 : Fin 3) * 1024 + 1 * (y 2).val = (y 2).val / 128 * 128 + (y 2).val % 128; omega

theorem emb7 (t : Fin cfg0.N) (y : S1x1x8x128.Idx) : ((cfg0.win 7).blk t).view.emb y = narrow t y := by
  obtain ⟨e0, e1, e2, e3⟩ := idx7 t
  have h0 : (y 0).val < 1 := (y 0).isLt
  have h1 : (y 1).val < 1 := (y 1).isLt
  funext a
  refine Fin.ext ?_
  match a with
  | ⟨0, _⟩ => show win0_7.index t (0 : Fin 4) * 1 + 1 * (y 0).val = (seqOf t).val; omega
  | ⟨1, _⟩ => show win0_7.index t (1 : Fin 4) * 1 + 1 * (y 1).val = (blkOf t).val; omega
  | ⟨2, _⟩ => show win0_7.index t (2 : Fin 4) * 8 + 1 * (y 2).val = (y 2).val; omega
  | ⟨3, _⟩ => show win0_7.index t (3 : Fin 4) * 128 + 1 * (y 3).val = (y 3).val; omega

theorem emb8 (t : Fin cfg0.N) (y : S1x1x8x128.Idx) : ((cfg0.win 8).blk t).view.emb y = narrow t y := by
  obtain ⟨e0, e1, e2, e3⟩ := idx8 t
  have h0 : (y 0).val < 1 := (y 0).isLt
  have h1 : (y 1).val < 1 := (y 1).isLt
  funext a
  refine Fin.ext ?_
  match a with
  | ⟨0, _⟩ => show win0_8.index t (0 : Fin 4) * 1 + 1 * (y 0).val = (seqOf t).val; omega
  | ⟨1, _⟩ => show win0_8.index t (1 : Fin 4) * 1 + 1 * (y 1).val = (blkOf t).val; omega
  | ⟨2, _⟩ => show win0_8.index t (2 : Fin 4) * 8 + 1 * (y 2).val = (y 2).val; omega
  | ⟨3, _⟩ => show win0_8.index t (3 : Fin 4) * 128 + 1 * (y 3).val = (y 3).val; omega

/-- The grid point of an index of a wide array. -/
theorem wide_onto (x : S4x16384x1024.Idx) : ∃ t y, wide t y = x := by
  have h0 : (x 0).val < 4 := (x 0).isLt
  have h1 : (x 1).val < 16384 := (x 1).isLt
  have h2 : (x 2).val < 1024 := (x 2).isLt
  refine ⟨⟨(x 0).val * 128 + (x 1).val / 128, by show _ < 512; omega⟩,
    ix3 0 ⟨(x 1).val % 128, Nat.mod_lt _ (by decide)⟩ (x 2), ?_⟩
  funext a
  refine Fin.ext ?_
  match a with
  | ⟨0, _⟩ => show ((x 0).val * 128 + (x 1).val / 128) / 128 = (x 0).val; omega
  | ⟨1, _⟩ => show ((x 0).val * 128 + (x 1).val / 128) % 128 * 128 + (x 1).val % 128 = (x 1).val; omega
  | ⟨2, _⟩ => show (x 2).val / 128 * 128 + (x 2).val % 128 = (x 2).val; omega

/-- The grid point of an index of a narrow array. -/
theorem narrow_onto (x : S4x128x8x128.Idx) : ∃ t y, narrow t y = x := by
  have h0 : (x 0).val < 4 := (x 0).isLt
  have h1 : (x 1).val < 128 := (x 1).isLt
  refine ⟨⟨(x 0).val * 128 + (x 1).val, by show _ < 512; omega⟩, ix4 0 0 (x 2) (x 3), ?_⟩
  funext a
  refine Fin.ext ?_
  match a with
  | ⟨0, _⟩ => show ((x 0).val * 128 + (x 1).val) / 128 = (x 0).val; omega
  | ⟨1, _⟩ => show ((x 0).val * 128 + (x 1).val) % 128 = (x 1).val; omega
  | ⟨2, _⟩ => rfl
  | ⟨3, _⟩ => rfl

/-! ## The arrays after the run -/

variable (c : Dev nD)

theorem final5 (G : Vec Ideal S4x16384x1024 .bf16)
    (h : ∀ t y, (outsAt0 m c t.val t.isLt).1 y = G (wide t y)) : (dats m 0 c).arrAt 5 cfg0.N = G :=
  (dats m 0 c).arrAt_eq_of_cover 5 G
    (fun t _ => (Value.flushed5 m c t).trans (funext fun y => (h t y).trans (congrArg G (emb5 t y).symm)))
    fun x => by
      obtain ⟨t, y, rfl⟩ := wide_onto x
      exact ⟨t, flush0_5 t, by have e := ((cfg0.win 5).blk t).view.emb_mem_set y; rwa [emb5] at e⟩

theorem final6 (G : Vec Ideal S4x16384x1024 .fp8e4m3)
    (h : ∀ t y, (outsAt0 m c t.val t.isLt).2.1 y = G (wide t y)) : (dats m 0 c).arrAt 6 cfg0.N = G :=
  (dats m 0 c).arrAt_eq_of_cover 6 G
    (fun t _ => (Value.flushed6 m c t).trans (funext fun y => (h t y).trans (congrArg G (emb6 t y).symm)))
    fun x => by
      obtain ⟨t, y, rfl⟩ := wide_onto x
      exact ⟨t, flush0_6 t, by have e := ((cfg0.win 6).blk t).view.emb_mem_set y; rwa [emb6] at e⟩

theorem final7 (G : Vec Ideal S4x128x8x128 .f32)
    (h : ∀ t y, (outsAt0 m c t.val t.isLt).2.2.1 y = G (narrow t y)) : (dats m 0 c).arrAt 7 cfg0.N = G :=
  (dats m 0 c).arrAt_eq_of_cover 7 G
    (fun t _ => (Value.flushed7 m c t).trans (funext fun y => (h t y).trans (congrArg G (emb7 t y).symm)))
    fun x => by
      obtain ⟨t, y, rfl⟩ := narrow_onto x
      exact ⟨t, flush0_7 t, by have e := ((cfg0.win 7).blk t).view.emb_mem_set y; rwa [emb7] at e⟩

theorem final8 (G : Vec Ideal S4x128x8x128 .bf16)
    (h : ∀ t y, (outsAt0 m c t.val t.isLt).2.2.2 y = G (narrow t y)) : (dats m 0 c).arrAt 8 cfg0.N = G :=
  (dats m 0 c).arrAt_eq_of_cover 8 G
    (fun t _ => (Value.flushed8 m c t).trans (funext fun y => (h t y).trans (congrArg G (emb8 t y).symm)))
    fun x => by
      obtain ⟨t, y, rfl⟩ := narrow_onto x
      exact ⟨t, flush0_8 t, by have e := ((cfg0.win 8).blk t).view.emb_mem_set y; rwa [emb8] at e⟩

end Cert.Blocks

end
-- ==== Proof.PiecesA.lean ====
/- What the ramp leaves in the output blocks: for each head what its vector program stores. -/
module

public import proofs.«01_k».proof.Proof.Gen.KernelIdeal.Frame
public import proofs.«01_k».proof.Proof.Lanes
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Pieces

open Idealize.ShloMosaic Idealize.ShloMosaic.TcCoe Idealize.SL.Sem
open Cert.KernelIdeal Cert.KernelIdeal.Gen

variable (m : (ℓ : Loc nD τ sig) → Buf (Elt Ideal) ℓ)

theorem cond_A (t : Fin cfg0.N) (hA : t.val % 128 ≤ 11) : k0_cond2 (grid0.coords t) = 1#1 := (hcond0_1 t).2 (by omega)

/-- What the ramp stores for head `k` at grid point `t`. -/
def rawA (c : Dev nD) (t : Fin cfg0.N) (hi : k0_cond2 (grid0.coords t) = 1#1) (k : Fin 8) : FVec Ideal S1x128x128 .bf16 :=
  Head.outA (iblk m c 0 t) (held m c t) (loaded m c t) (iblk m c 1 t) (iblk m c 2 t) (iblk m c 3 t) (iblk m c 4 t)
    (grid0.coords t) hi k

theorem out5_A (c : Dev nD) (t : Fin cfg0.N) (hB : ¬ 12 ≤ t.val % 128) (hA : t.val % 128 ≤ 11) (y : S1x128x1024.Idx) :
    (outsAt0 m c t.val t.isLt).1 y = rawA m c t (cond_A t hA) (head y) (inside y) := by
  rw [outsAt0_A m c t hB hA]
  frame_open
  simp (disch := first | rfl | decide) only [↓View.readCov_skip, ↓View.readCov_fill, ↓View.readCov_cons_toLoadRect,
    View.read_writes_junk_eq_canon, View.readAt_eq_ld, Memref.IsWhole.read_unread]
  frame_out
  canon_tiles x h
  · exact at_head (rawA m c t (cond_A t hA)) 7 h1 h2 (by sl_kernel_rfl)
  · exact at_head (rawA m c t (cond_A t hA)) 6 h1 h2 (by sl_kernel_rfl)
  · exact at_head (rawA m c t (cond_A t hA)) 5 h1 h2 (by sl_kernel_rfl)
  · exact at_head (rawA m c t (cond_A t hA)) 4 h1 h2 (by sl_kernel_rfl)
  · exact at_head (rawA m c t (cond_A t hA)) 3 h1 h2 (by sl_kernel_rfl)
  · exact at_head (rawA m c t (cond_A t hA)) 2 h1 h2 (by sl_kernel_rfl)
  · exact at_head (rawA m c t (cond_A t hA)) 1 h1 h2 (by sl_kernel_rfl)
  · exact at_head (rawA m c t (cond_A t hA)) 0 h1 (h2.trans (Nat.zero_add _).symm) (by sl_kernel_rfl)

theorem out6_A (c : Dev nD) (t : Fin cfg0.N) (hB : ¬ 12 ≤ t.val % 128) (hA : t.val % 128 ≤ 11) (y : S1x128x1024.Idx) :
    (outsAt0 m c t.val t.isLt).2.1 y = Head.outQ (iblk m c 0 t) (head y) (inside y) := by
  rw [outsAt0_A m c t hB hA]
  frame_open
  simp (disch := first | rfl | decide) only [↓View.readCov_skip, ↓View.readCov_fill, ↓View.readCov_cons_toLoadRect,
    View.read_writes_junk_eq_canon, View.readAt_eq_ld, Memref.IsWhole.read_unread]
  frame_out
  canon_tiles x h
  · exact at_head (Head.outQ (iblk m c 0 t)) 7 h1 h2 (by sl_kernel_rfl)
  · exact at_head (Head.outQ (iblk m c 0 t)) 6 h1 h2 (by sl_kernel_rfl)
  · exact at_head (Head.outQ (iblk m c 0 t)) 5 h1 h2 (by sl_kernel_rfl)
  · exact at_head (Head.outQ (iblk m c 0 t)) 4 h1 h2 (by sl_kernel_rfl)
  · exact at_head (Head.outQ (iblk m c 0 t)) 3 h1 h2 (by sl_kernel_rfl)
  · exact at_head (Head.outQ (iblk m c 0 t)) 2 h1 h2 (by sl_kernel_rfl)
  · exact at_head (Head.outQ (iblk m c 0 t)) 1 h1 h2 (by sl_kernel_rfl)
  · exact at_head (Head.outQ (iblk m c 0 t)) 0 h1 (h2.trans (Nat.zero_add _).symm) (by sl_kernel_rfl)

theorem out7_A (c : Dev nD) (t : Fin cfg0.N) (hB : ¬ 12 ≤ t.val % 128) (hA : t.val % 128 ≤ 11) (y : S1x1x8x128.Idx) :
    (outsAt0 m c t.val t.isLt).2.2.1 y = Head.outS (iblk m c 0 t) (y 2) (ix4 0 0 0 (y 3)) := by
  rw [outsAt0_A m c t hB hA]
  frame_open
  simp (disch := first | rfl | decide) only [↓View.readCov_skip, ↓View.readCov_fill, ↓View.readCov_cons_toLoadRect,
    View.read_writes_junk_eq_canon, View.readAt_eq_ld, Memref.IsWhole.read_unread]
  frame_out
  canon_tiles x h
  · exact at_row (Head.outS (iblk m c 0 t)) 7 h2 h3 (by sl_kernel_rfl)
  · exact at_row (Head.outS (iblk m c 0 t)) 6 h2 h3 (by sl_kernel_rfl)
  · exact at_row (Head.outS (iblk m c 0 t)) 5 h2 h3 (by sl_kernel_rfl)
  · exact at_row (Head.outS (iblk m c 0 t)) 4 h2 h3 (by sl_kernel_rfl)
  · exact at_row (Head.outS (iblk m c 0 t)) 3 h2 h3 (by sl_kernel_rfl)
  · exact at_row (Head.outS (iblk m c 0 t)) 2 h2 h3 (by sl_kernel_rfl)
  · exact at_row (Head.outS (iblk m c 0 t)) 1 h2 h3 (by sl_kernel_rfl)
  · exact at_row (Head.outS (iblk m c 0 t)) 0 (h2.trans (Nat.zero_add _).symm) h3 (by sl_kernel_rfl)

theorem out8_A (c : Dev nD) (t : Fin cfg0.N) (hB : ¬ 12 ≤ t.val % 128) (hA : t.val % 128 ≤ 11) (y : S1x1x8x128.Idx) :
    (outsAt0 m c t.val t.isLt).2.2.2 y = k0_pay1226 (iblk m c 0 t) y := by
  rw [outsAt0_A m c t hB hA]
  frame_open
  simp (disch := first | rfl | decide) only [↓View.readCov_skip, ↓View.readCov_fill, ↓View.readCov_cons_toLoadRect,
    View.read_writes_junk_eq_canon, View.readAt_eq_ld, Memref.IsWhole.read_unread]
  frame_out

end Cert.Pieces

end
-- ==== Proof.PiecesB.lean ====
/- What the steady part leaves in the output blocks: for each head what its vector program stores. -/
module

public import proofs.«01_k».proof.Proof.Gen.KernelIdeal.Frame
public import proofs.«01_k».proof.Proof.Lanes
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Pieces

open Idealize.ShloMosaic Idealize.ShloMosaic.TcCoe Idealize.SL.Sem
open Cert.KernelIdeal Cert.KernelIdeal.Gen

variable (m : (ℓ : Loc nD τ sig) → Buf (Elt Ideal) ℓ)

theorem cond_B (t : Fin cfg0.N) (hB : 12 ≤ t.val % 128) : k0_cond1 (grid0.coords t) = 1#1 := (hcond0_0 t).2 (by omega)

/-- What the steady part stores for head `k` at grid point `t`. -/
def rawB (c : Dev nD) (t : Fin cfg0.N) (hi : k0_cond1 (grid0.coords t) = 1#1) (k : Fin 8) : FVec Ideal S1x128x128 .bf16 :=
  Head.outB (iblk m c 0 t) (held m c t) (loaded m c t) (iblk m c 1 t) (iblk m c 2 t) (iblk m c 3 t) (iblk m c 4 t)
    (grid0.coords t) hi k

theorem out5_B (c : Dev nD) (t : Fin cfg0.N) (hB : 12 ≤ t.val % 128) (hA : ¬ t.val % 128 ≤ 11) (y : S1x128x1024.Idx) :
    (outsAt0 m c t.val t.isLt).1 y = rawB m c t (cond_B t hB) (head y) (inside y) := by
  rw [outsAt0_B m c t hB hA]
  frame_open
  simp (disch := first | rfl | decide) only [↓View.readCov_skip, ↓View.readCov_fill, ↓View.readCov_cons_toLoadRect,
    View.read_writes_junk_eq_canon, View.readAt_eq_ld, Memref.IsWhole.read_unread]
  frame_out
  canon_tiles x h
  · exact at_head (rawB m c t (cond_B t hB)) 7 h1 h2 (by sl_kernel_rfl)
  · exact at_head (rawB m c t (cond_B t hB)) 6 h1 h2 (by sl_kernel_rfl)
  · exact at_head (rawB m c t (cond_B t hB)) 5 h1 h2 (by sl_kernel_rfl)
  · exact at_head (rawB m c t (cond_B t hB)) 4 h1 h2 (by sl_kernel_rfl)
  · exact at_head (rawB m c t (cond_B t hB)) 3 h1 h2 (by sl_kernel_rfl)
  · exact at_head (rawB m c t (cond_B t hB)) 2 h1 h2 (by sl_kernel_rfl)
  · exact at_head (rawB m c t (cond_B t hB)) 1 h1 h2 (by sl_kernel_rfl)
  · exact at_head (rawB m c t (cond_B t hB)) 0 h1 (h2.trans (Nat.zero_add _).symm) (by sl_kernel_rfl)

theorem out6_B (c : Dev nD) (t : Fin cfg0.N) (hB : 12 ≤ t.val % 128) (hA : ¬ t.val % 128 ≤ 11) (y : S1x128x1024.Idx) :
    (outsAt0 m c t.val t.isLt).2.1 y = Head.outQ (iblk m c 0 t) (head y) (inside y) := by
  rw [outsAt0_B m c t hB hA]
  frame_open
  simp (disch := first | rfl | decide) only [↓View.readCov_skip, ↓View.readCov_fill, ↓View.readCov_cons_toLoadRect,
    View.read_writes_junk_eq_canon, View.readAt_eq_ld, Memref.IsWhole.read_unread]
  frame_out
  canon_tiles x h
  · exact at_head (Head.outQ (iblk m c 0 t)) 7 h1 h2 (by sl_kernel_rfl)
  · exact at_head (Head.outQ (iblk m c 0 t)) 6 h1 h2 (by sl_kernel_rfl)
  · exact at_head (Head.outQ (iblk m c 0 t)) 5 h1 h2 (by sl_kernel_rfl)
  · exact at_head (Head.outQ (iblk m c 0 t)) 4 h1 h2 (by sl_kernel_rfl)
  · exact at_head (Head.outQ (iblk m c 0 t)) 3 h1 h2 (by sl_kernel_rfl)
  · exact at_head (Head.outQ (iblk m c 0 t)) 2 h1 h2 (by sl_kernel_rfl)
  · exact at_head (Head.outQ (iblk m c 0 t)) 1 h1 h2 (by sl_kernel_rfl)
  · exact at_head (Head.outQ (iblk m c 0 t)) 0 h1 (h2.trans (Nat.zero_add _).symm) (by sl_kernel_rfl)

theorem out7_B (c : Dev nD) (t : Fin cfg0.N) (hB : 12 ≤ t.val % 128) (hA : ¬ t.val % 128 ≤ 11) (y : S1x1x8x128.Idx) :
    (outsAt0 m c t.val t.isLt).2.2.1 y = Head.outS (iblk m c 0 t) (y 2) (ix4 0 0 0 (y 3)) := by
  rw [outsAt0_B m c t hB hA]
  frame_open
  simp (disch := first | rfl | decide) only [↓View.readCov_skip, ↓View.readCov_fill, ↓View.readCov_cons_toLoadRect,
    View.read_writes_junk_eq_canon, View.readAt_eq_ld, Memref.IsWhole.read_unread]
  frame_out
  canon_tiles x h
  · exact at_row (Head.outS (iblk m c 0 t)) 7 h2 h3 (by sl_kernel_rfl)
  · exact at_row (Head.outS (iblk m c 0 t)) 6 h2 h3 (by sl_kernel_rfl)
  · exact at_row (Head.outS (iblk m c 0 t)) 5 h2 h3 (by sl_kernel_rfl)
  · exact at_row (Head.outS (iblk m c 0 t)) 4 h2 h3 (by sl_kernel_rfl)
  · exact at_row (Head.outS (iblk m c 0 t)) 3 h2 h3 (by sl_kernel_rfl)
  · exact at_row (Head.outS (iblk m c 0 t)) 2 h2 h3 (by sl_kernel_rfl)
  · exact at_row (Head.outS (iblk m c 0 t)) 1 h2 h3 (by sl_kernel_rfl)
  · exact at_row (Head.outS (iblk m c 0 t)) 0 (h2.trans (Nat.zero_add _).symm) h3 (by sl_kernel_rfl)

theorem out8_B (c : Dev nD) (t : Fin cfg0.N) (hB : 12 ≤ t.val % 128) (hA : ¬ t.val % 128 ≤ 11) (y : S1x1x8x128.Idx) :
    (outsAt0 m c t.val t.isLt).2.2.2 y = k0_pay1226 (iblk m c 0 t) y := by
  rw [outsAt0_B m c t hB hA]
  frame_open
  simp (disch := first | rfl | decide) only [↓View.readCov_skip, ↓View.readCov_fill, ↓View.readCov_cons_toLoadRect,
    View.read_writes_junk_eq_canon, View.readAt_eq_ld, Memref.IsWhole.read_unread]
  frame_out

end Cert.Pieces

end
-- ==== Proof.HeadAt.lean ====
/- One head's vector program at one index: which numbers of the blocks it reads, and in which order. -/
module

public import proofs.«01_k».proof.Proof.Head
public import proofs.«01_k».proof.Proof.Model
public import Idealize.ShloMosaic.Lib.Pointwise

@[expose] public section

set_option maxRecDepth 16384

noncomputable section

namespace Cert.HeadAt

open Idealize.ShloMosaic Idealize.SL.Sem
open Cert.KernelIdeal Cert.KernelIdeal.Gen

theorem centred_at (x : Vec Ideal S1x128x128 .bf16) (mq : FVec Ideal S1x128 .bf16) (r d : Fin 128) :
    Head.centred x mq (ix2 r d) = x (ix3 0 r d) - mq (ix2 0 d) := by
  pointwise [Head.centred]

theorem ratio_at (q : FVec Ideal S128x128 .f32) (l : Fin 128) :
    Head.ratio q (ix2 0 l)
      = (Finset.univ.sup fun d => Finset.univ.sup fun r => max (q (ix2 r d)) (-q (ix2 r d)))
        * Ideal.ofBits .f32 0x3B124925#32 := by
  pointwise [Head.ratio]
  rw [Scalars.ofBits_bot]
  rfl

theorem field_at (y : FVec Ideal S1x128 .f32) (l : Fin 128) :
    Head.field y (ix2 0 l) = Exponent.field (y (ix2 0 l)) := by
  pointwise [Head.field, Head.step, Exponent.field, Exponent.step, Exponent.wordAt]

theorem expo_at (y : FVec Ideal S1x128 .f32) (l : Fin 128) :
    Head.expo y (ix2 0 l) = Exponent.expo (y (ix2 0 l)) := by
  unfold Exponent.expo
  rw [← field_at y l]
  pointwise [Head.expo]

theorem pow2_at (e : IVec S1x128 32) (l : Fin 128) :
    (Head.pow2 e : FVec Ideal S1x128 .f32) (ix2 0 l) = Exponent.pow2 (e (ix2 0 l)) := by
  pointwise [Head.pow2, Exponent.pow2, Exponent.wordAt]

theorem codes_at (q : FVec Ideal S128x128 .f32) (e : IVec S1x128 32) (r d : Fin 128) :
    Head.codes q e (ix2 r d) = min (Ideal.ofBits .f32 0x43E00000#32) (max (Ideal.ofBits .f32 0xC3E00000#32)
      (q (ix2 r d) * Exponent.pow2 (IntOp.subi 0#32 (e (ix2 0 d))))) := by
  pointwise [Head.codes, Head.pow2, Exponent.pow2, Exponent.wordAt]

/-- A head's codes, from the numbers of its queries. -/
theorem codesOf_at (x : Vec Ideal S1x128x128 .bf16) (mq : FVec Ideal S1x128 .bf16) (f : Fin 128 → Fin 128 → EReal)
    (hx : ∀ r d, x (ix3 0 r d) = f r d) (hm : ∀ d, mq (ix2 0 d) = Model.mean f d) (r d : Fin 128) :
    Head.codesOf x mq (ix2 r d) = Model.quant f r d := by
  unfold Head.codesOf
  rw [codes_at, expo_at, ratio_at]
  simp only [centred_at, hx, hm]
  rfl

/-- A head's scale, from the numbers of its queries. -/
theorem scaleOf_at (x : Vec Ideal S1x128x128 .bf16) (mq : FVec Ideal S1x128 .bf16) (f : Fin 128 → Fin 128 → EReal)
    (hx : ∀ r d, x (ix3 0 r d) = f r d) (hm : ∀ d, mq (ix2 0 d) = Model.mean f d) (l : Fin 128) :
    Head.scaleOf x mq (ix2 0 l) = Model.scale f := by
  unfold Head.scaleOf
  rw [pow2_at, expo_at, ratio_at]
  simp only [centred_at, hx, hm]
  rfl

theorem scales_at (sk : FVec Ideal S1x1664 .f32) (sq : FVec Ideal S1x128 .f32) (v : EReal) (hv : ∀ l, sq (ix2 0 l) = v)
    (k : Fin 1664) : Head.scales sk sq (ix2 0 k) = sk (ix2 0 k) * v := by
  pointwise [Head.scales]
  simp only [hv, dite_eq_ite, ite_self]

theorem score_at (qc : FVec Ideal S128x128 .fp8e4m3) (A B : FVec Ideal S1x1664 .f32)
    (kt : ℕ → Vec Ideal S1x128x128 .fp8e4m3) (j : ℕ) (hj : j < 13) (r k : Fin 128) :
    Head.score qc A B kt j (ix2 r k)
      = (∑ d, qc (ix2 r d) * kt j (ix3 0 d k)) * A (ix2 0 ⟨128 * j + k.val, by omega⟩)
        + B (ix2 0 ⟨128 * j + k.val, by omega⟩) := by
  have e : (Head.no j).val = j := Nat.mod_eq_of_lt hj
  pointwise [Head.score, Head.tile]
  simp only [e]

theorem shift_at (m : FVec Ideal S128x128 .f32) (r : Fin 128) :
    Head.shift m (ix2 r 0) = (Finset.univ.sup fun k => m (ix2 r k)) - Ideal.ofBits .f32 0x41000000#32 := by
  pointwise [Head.shift]
  rw [Scalars.ofBits_bot]
  rfl

theorem weight_at (t : FVec Ideal S128x128 .f32) (s : FVec Ideal S128x1 .f32) (r k : Fin 128) :
    Head.weight t s (ix2 r k) = Ideal.exp2 (t (ix2 r k) - s (ix2 r 0)) := by
  pointwise [Head.weight]
  rfl

theorem kept_eq (t : FVec Ideal S128x128 .f32) : Head.kept t = t := by
  funext z
  pointwise [Head.kept]

theorem clip_at (p : FVec Ideal S128x128 .f32) (r k : Fin 128) :
    Head.clip p (ix2 r k) = Softmax.clip (p (ix2 r k)) := by
  pointwise [Head.clip, Head.zeros, Softmax.clip]

theorem product_at (p : FVec Ideal S128x128 .f32) (v : Vec Ideal S1x128x128 .fp8e4m3) (r d : Fin 128) :
    Head.product p v (ix2 r d) = ∑ k, p (ix2 r k) * v (ix3 0 k d) := by
  pointwise [Head.product]

theorem final_at (pv l : FVec Ideal S128x128 .f32) (vs : FVec Ideal S1x128 .f32) (r d : Fin 128) :
    Head.final pv l vs (ix3 0 r d) = Ideal.div (pv (ix2 r d) * vs (ix2 0 d)) (∑ k, l (ix2 r k)) := by
  pointwise [Head.final]

theorem zeros_at (r k : Fin 128) : (Head.zeros : FVec Ideal S128x128 .f32) (ix2 r k) = 0 := by
  pointwise [Head.zeros]

theorem bots_at (r k : Fin 128) : (Head.bots : FVec Ideal S128x128 .f32) (ix2 r k) = ⊥ := by
  pointwise [Head.bots]
  exact Scalars.ofBits_bot

theorem fold_add_at (z : FVec Ideal S128x128 .f32) (g : ℕ → FVec Ideal S128x128 .f32) (n : ℕ) (r k : Fin 128) :
    Head.fold z (fun j w => addf w (g j)) n (ix2 r k) = z (ix2 r k) + ∑ j ∈ Finset.range n, g j (ix2 r k) := by
  rw [← Softmax.fold_add]
  induction n with
  | zero => rfl
  | succ n ih => exact congrArg (· + g n (ix2 r k)) ih

theorem fold_max_at (z : FVec Ideal S128x128 .f32) (g : ℕ → FVec Ideal S128x128 .f32) (n : ℕ) (r k : Fin 128) :
    Head.fold z (fun j w => maximumf w (g j)) n (ix2 r k)
      = max (z (ix2 r k)) ((Finset.range n).sup fun j => g j (ix2 r k)) := by
  rw [← Softmax.fold_max]
  induction n with
  | zero => rfl
  | succ n ih => exact congrArg (max · (g n (ix2 r k))) ih

theorem add_at (a c : FVec Ideal S128x128 .f32) (r k : Fin 128) : addf a c (ix2 r k) = a (ix2 r k) + c (ix2 r k) := rfl

/-- The steady part's selection. -/
theorem pick_at (a c : FVec Ideal S128x128 .f32) (r k : Fin 128) :
    select k0_pay2 a c (ix2 r k) = if k.val ≤ r.val then a (ix2 r k) else c (ix2 r k) := by
  have h : (IntOp.cmpi .sle (BitVec.ofNat 32 k.val) (BitVec.ofNat 32 r.val) = 1#1) ↔ k.val ≤ r.val := by
    have hk := k.isLt
    have hr := r.isLt
    rw [IntOp.cmpi_sle]
    simp only [IntOp.addi, Scalar.muli, IntOp.muli, BitVec.toInt_eq_toNat_bmod, BitVec.toNat_add, BitVec.toNat_mul,
      BitVec.toNat_ofNat, Int.bmod]
    omega
  pointwise [k0_pay2]
  exact Softmax.select_iff h _ _

/-- The ramp's selection. -/
theorem mask_at (g : Fin 128) (j : ℕ) (hj : j < 13) (a : FVec Ideal S128x128 .f32) (r k : Fin 128) :
    select (Head.mask (BitVec.ofNat 32 g.val) j) a Head.bots (ix2 r k)
      = if k.val + 128 * j ≤ r.val + g.val * 128 then a (ix2 r k) else ⊥ := by
  have h : (IntOp.cmpi .sle (IntOp.addi (BitVec.ofNat 32 k.val) (BitVec.ofNat 32 (128 * j)))
      (IntOp.addi (BitVec.ofNat 32 r.val) (Scalar.muli (BitVec.ofNat 32 g.val) 128#32)) = 1#1)
        ↔ k.val + 128 * j ≤ r.val + g.val * 128 := by
    have hk := k.isLt
    have hr := r.isLt
    rw [IntOp.cmpi_sle]
    simp only [IntOp.addi, Scalar.muli, IntOp.muli, BitVec.toInt_eq_toNat_bmod, BitVec.toNat_add, BitVec.toNat_mul,
      BitVec.toNat_ofNat, Int.bmod]
    omega
  pointwise [Head.mask, Head.bots]
  rw [Scalars.ofBits_bot]
  exact Softmax.select_iff h _ _

/-- The steady part in a row, over the numbers of its tiles. -/
theorem steady_at (t : ℕ → FVec Ideal S128x128 .f32) (vt : ℕ → Vec Ideal S1x128x128 .fp8e4m3) (vs : FVec Ideal S1x128 .f32)
    (r d : Fin 128) :
    Head.steady t vt vs (ix3 0 r d)
      = Softmax.attn (Softmax.shared (fun k => k.val ≤ r.val) (fun j k => t j (ix2 r k))) (fun j k => vt j (ix3 0 k d))
          (vs (ix2 0 d)) := by
  rw [← Softmax.steady_eq (fun k => k.val ≤ r.val) (fun j k => t j (ix2 r k)) _ _ _ rfl]
  unfold Head.steady
  simp only [final_at, fold_add_at, fold_max_at, add_at, product_at, pick_at, clip_at, kept_eq, weight_at, shift_at, zeros_at, Softmax.edge]

/-- The ramp in a row, over the numbers of its tiles. -/
theorem ramp_at (g : Fin 128) (t : ℕ → FVec Ideal S128x128 .f32) (vt : ℕ → Vec Ideal S1x128x128 .fp8e4m3)
    (vs : FVec Ideal S1x128 .f32) (r d : Fin 128) :
    Head.ramp (BitVec.ofNat 32 g.val) t vt vs (ix3 0 r d)
      = Softmax.attn (fun j k => select (Head.mask (BitVec.ofNat 32 g.val) j) (t j) (Head.bots : FVec Ideal S128x128 .f32) (ix2 r k))
          (fun j k => vt j (ix3 0 k d)) (vs (ix2 0 d)) := by
  rw [← Softmax.ramp_eq _ _ _ _ rfl]
  unfold Head.ramp
  simp only [final_at, fold_add_at, fold_max_at, product_at, clip_at, kept_eq, weight_at, shift_at, zeros_at, bots_at]

end Cert.HeadAt

end
-- ==== Proof.XAt.lean ====
/- The tiles a head reads, as numbers of the blocks: the offsets of the window's key tiles, the means, the correction. -/
module

public import proofs.«01_k».proof.Proof.HeadAt

@[expose] public section

set_option maxRecDepth 16384

noncomputable section

namespace Cert.HeadAt

open Idealize.ShloMosaic Idealize.SL.Sem
open Cert.KernelIdeal Cert.KernelIdeal.Gen
open Cert.Model (lane)

variable (X : Vec Ideal S1x128x1024 .bf16) (K : Vec Ideal S1x128x16384 .fp8e4m3) (S : Vec Ideal S1x1x16384 .f32)
  (V : Vec Ideal S1x16384x128 .fp8e4m3) (i : grid0.Coords) (h : Fin 8) (d r k : Fin 128)

/-- The queries of one head of a block. -/
def block (r d : Fin 128) : EReal := X (ix3 0 r (lane h d))

theorem xTile_at : Head.xTile X h (ix3 0 r d) = block X h r d := by
  unfold Head.xTile block lane
  congr 1
  funext a
  refine Fin.ext ?_
  match a with
  | ⟨0, _⟩ => rfl
  | ⟨1, _⟩ => show 0 + 1 * r.val = r.val; omega
  | ⟨2, _⟩ => show 128 * h.val + 1 * d.val = h.val * 128 + d.val; omega

theorem mqTile_at : Head.mqTile X h (ix2 0 d) = Model.mean (block X h) d := by
  have e : ∀ r, block X h r d = X (ix3 0 r ⟨128 * h.val + d.val, by omega⟩) := fun r => by
    unfold block lane
    congr 2
    exact Fin.ext (by show h.val * 128 + d.val = 128 * h.val + d.val; omega)
  unfold Model.mean
  simp only [e]
  pointwise [Head.mqTile, k0_pay1224]

theorem means_at : k0_pay1225 X (ix2 h d) = Model.mean (block X h) d := by
  rw [← mqTile_at]
  fin_cases h <;> pointwise [k0_pay1225, Head.mqTile]

theorem pay1226_at : k0_pay1226 X (ix4 0 0 h d) = Model.mean (block X h) d := by
  rw [← means_at]
  pointwise [k0_pay1226]

/-- The first key of the window. -/
def first : ℕ := ((i 1).val - 12) * 128

theorem first_le : first i + 1664 ≤ 16384 := by
  have : (i 1).val < 128 := (i 1).isLt
  unfold first
  omega

theorem word_first : (Scalar.muli (Scalar.maxsi (Scalar.subi (BitVec.ofNat 32 (i 1).val) 12#32) 0#32) 128#32).toNat = first i := by
  have : ∀ g : Fin 128, (Scalar.muli (Scalar.maxsi (Scalar.subi (BitVec.ofNat 32 g.val) 12#32) 0#32) 128#32).toNat = (g.val - 12) * 128 := by
    decide +kernel
  exact this (i 1)

theorem word_tile (j : Fin 13) :
    (Scalar.addi (Scalar.muli (Scalar.maxsi (Scalar.subi (BitVec.ofNat 32 (i 1).val) 12#32) 0#32) 128#32)
      (BitVec.ofNat 32 (128 * j.val))).toNat = first i + 128 * j.val := by
  have : ∀ (g : Fin 128) (j : Fin 13),
      (Scalar.addi (Scalar.muli (Scalar.maxsi (Scalar.subi (BitVec.ofNat 32 g.val) 12#32) 0#32) 128#32)
        (BitVec.ofNat 32 (128 * j.val))).toNat = (g.val - 12) * 128 + 128 * j.val := by
    decide +kernel
  exact this (i 1) j

theorem key_val (j : ℕ) (hj : j < 13) : (Softmax.key (first i) j k).val = first i + 128 * j + k.val := by
  have := first_le i
  exact Nat.mod_eq_of_lt (by omega)

theorem ktB_at (hi : k0_cond1 i = 1#1) (j : ℕ) (hj : j < 13) :
    Head.ktB K i hi j (ix3 0 d k) = K (ix3 0 d (Softmax.key (first i) j k)) := by
  have e : (Head.no j).val = j := Nat.mod_eq_of_lt hj
  have hw := word_tile i (Head.no j)
  unfold Head.ktB
  congr 1
  funext a
  refine Fin.ext ?_
  match a with
  | ⟨0, _⟩ => rfl
  | ⟨1, _⟩ => show 0 + 1 * d.val = d.val; omega
  | ⟨2, _⟩ =>
    refine Eq.trans ?_ (key_val i k j hj).symm
    refine (congrArg (· + 1 * k.val) hw).trans ?_
    show first i + 128 * (Head.no j).val + 1 * k.val = _
    rw [e]
    omega

theorem ktA_at (hi : k0_cond2 i = 1#1) (j : ℕ) (hj : j < 13) :
    Head.ktA K i hi j (ix3 0 d k) = K (ix3 0 d (Softmax.key (first i) j k)) := by
  have e : (Head.no j).val = j := Nat.mod_eq_of_lt hj
  have hw := word_tile i (Head.no j)
  unfold Head.ktA
  congr 1
  funext a
  refine Fin.ext ?_
  match a with
  | ⟨0, _⟩ => rfl
  | ⟨1, _⟩ => show 0 + 1 * d.val = d.val; omega
  | ⟨2, _⟩ =>
    refine Eq.trans ?_ (key_val i k j hj).symm
    refine (congrArg (· + 1 * k.val) hw).trans ?_
    show first i + 128 * (Head.no j).val + 1 * k.val = _
    rw [e]
    omega

theorem vtB_at (hi : k0_cond1 i = 1#1) (j : ℕ) (hj : j < 13) :
    Head.vtB V i hi j (ix3 0 k d) = V (ix3 0 (Softmax.key (first i) j k) d) := by
  have e : (Head.no j).val = j := Nat.mod_eq_of_lt hj
  have hw := word_tile i (Head.no j)
  unfold Head.vtB
  congr 1
  funext a
  refine Fin.ext ?_
  match a with
  | ⟨0, _⟩ => rfl
  | ⟨1, _⟩ =>
    refine Eq.trans ?_ (key_val i k j hj).symm
    refine (congrArg (· + 1 * k.val) hw).trans ?_
    show first i + 128 * (Head.no j).val + 1 * k.val = _
    rw [e]
    omega
  | ⟨2, _⟩ => show 0 + 1 * d.val = d.val; omega

theorem vtA_at (hi : k0_cond2 i = 1#1) (j : ℕ) (hj : j < 13) :
    Head.vtA V i hi j (ix3 0 k d) = V (ix3 0 (Softmax.key (first i) j k) d) := by
  have e : (Head.no j).val = j := Nat.mod_eq_of_lt hj
  have hw := word_tile i (Head.no j)
  unfold Head.vtA
  congr 1
  funext a
  refine Fin.ext ?_
  match a with
  | ⟨0, _⟩ => rfl
  | ⟨1, _⟩ =>
    refine Eq.trans ?_ (key_val i k j hj).symm
    refine (congrArg (· + 1 * k.val) hw).trans ?_
    show first i + 128 * (Head.no j).val + 1 * k.val = _
    rw [e]
    omega
  | ⟨2, _⟩ => show 0 + 1 * d.val = d.val; omega

/-- A key of the window, as an index of the span that the kernel loads at once. -/
theorem span (j : ℕ) (hj : j < 13) : first i + (128 * j + k.val) = (Softmax.key (first i) j k).val := by
  rw [key_val i k j hj]
  omega

theorem skSpan_at (j : ℕ) (hj : j < 13) :
    Head.skSpan S i (ix2 0 ⟨128 * j + k.val, by omega⟩)
      = S (ix3 0 0 (Softmax.key (first i) j k)) * (Named.named κ "log2e_sm" 0x3E0293EE#32 : Ideal .f32) := by
  have e : ∀ (G : Vec Ideal S1x1x1664 .f32) (p : Fin 1664),
      k0_pay1222 G (ix2 0 p) = G (ix3 0 0 p) * (Named.named κ "log2e_sm" 0x3E0293EE#32 : Ideal .f32) := fun G p => by
    pointwise [k0_pay1222]
  unfold Head.skSpan
  rw [e]
  congr 2
  funext a
  refine Fin.ext ?_
  match a with
  | ⟨0, _⟩ => rfl
  | ⟨1, _⟩ => rfl
  | ⟨2, _⟩ =>
    refine Eq.trans ?_ (span i k j hj)
    refine (congrArg (· + 1 * (128 * j + k.val)) (word_first i)).trans ?_
    omega

/-- The correction of a key of the window. -/
theorem corr_at (j : ℕ) (hj : j < 13) :
    Head.row (Head.corr X K S i) h (ix2 0 ⟨128 * j + k.val, by omega⟩)
      = (∑ d, Model.mean (block X h) d * K (ix3 0 d (Softmax.key (first i) j k)))
        * (S (ix3 0 0 (Softmax.key (first i) j k)) * (Named.named κ "log2e_sm" 0x3E0293EE#32 : Ideal .f32)) := by
  have e1 : Head.row (Head.corr X K S i) h (ix2 0 ⟨128 * j + k.val, by omega⟩)
      = Head.corr X K S i (ix2 h ⟨128 * j + k.val, by omega⟩) := by
    unfold Head.row
    congr 1
    funext a
    refine Fin.ext ?_
    match a with
    | ⟨0, _⟩ => show h.val + 1 * 0 = h.val; omega
    | ⟨1, _⟩ => show 0 + 1 * (128 * j + k.val) = 128 * j + k.val; omega
  have e2 : ∀ (A : FVec Ideal S1x1664 .f32) (G : Vec Ideal S1x128x1664 .fp8e4m3) (p : Fin 1664),
      k0_pay1 A (k0_pay1227 G X) (ix2 h p) = (∑ d, k0_pay1225 X (ix2 h d) * G (ix3 0 d p)) * A (ix2 0 p) := fun A G p => by
    pointwise [k0_pay1, k0_pay1227]
  rw [e1]
  unfold Head.corr
  rw [e2, skSpan_at S i k j hj]
  congr 1
  refine Finset.sum_congr rfl fun d _ => ?_
  rw [means_at]
  congr 2
  funext a
  refine Fin.ext ?_
  match a with
  | ⟨0, _⟩ => rfl
  | ⟨1, _⟩ => show 0 + 1 * d.val = d.val; omega
  | ⟨2, _⟩ =>
    refine Eq.trans ?_ (span i k j hj)
    refine (congrArg (· + 1 * (128 * j + k.val)) (word_first i)).trans ?_
    omega

end Cert.HeadAt

end
-- ==== Proof.Rows.lean ====
/- One head's stored values at one index, as attention in numbers (`Cert.Model`, `Cert.Softmax.whole`). -/
module

public import proofs.«01_k».proof.Proof.XAt
public import proofs.«01_k».proof.Proof.Gen.ReferenceIdeal

@[expose] public section

set_option maxRecDepth 16384

noncomputable section

namespace Cert.HeadAt

open Idealize.ShloMosaic Idealize.SL.Sem
open Cert.KernelIdeal Cert.KernelIdeal.Gen

/-- The softmax's scale. -/
def sm : EReal := (((Real.sqrt 128)⁻¹ : ℝ) : EReal)

theorem sm_nonneg : 0 ≤ sm := EReal.coe_nonneg.2 (by positivity)

theorem named_log2e : (Named.named κ "log2e_sm" 0x3E0293EE#32 : Ideal .f32) = sm * (Scalars.c : EReal) :=
  (EReal.coe_mul _ _)

theorem named_sm : (Named.named ReferenceIdeal.κ "sm_scale" 0x3DB504F3#32 : Ideal .f32) = sm := rfl

variable (X : Vec Ideal S1x128x1024 .bf16) (K : Vec Ideal S1x128x16384 .fp8e4m3) (S : Vec Ideal S1x1x16384 .f32)
  (V : Vec Ideal S1x16384x128 .fp8e4m3) (s : Vec Ideal S1x1x128 .f32) (i : grid0.Coords) (n : Fin 128) (h : Fin 8)
  (d r k : Fin 128)

theorem outQ_at : Head.outQ X h (ix3 0 r d) = Model.quant (block X h) r d := by
  have e : ∀ q : FVec Ideal S128x128 .fp8e4m3,
      shapeCast S1x128x128 q shapeCasts_S128x128_S1x128x128 (ix3 0 r d) = q (ix2 r d) := fun q => by pointwise
  unfold Head.outQ
  rw [e]
  exact codesOf_at _ _ _ (fun r d => xTile_at X h d r) (fun d => mqTile_at X h d) r d

theorem outS_at : Head.outS X h (ix4 0 0 0 d) = Model.scale (block X h) := by
  have e : ∀ q : FVec Ideal S1x128 .f32,
      shapeCast S1x1x1x128 q shapeCasts_S1x128_S1x1x1x128 (ix4 0 0 0 d) = q (ix2 0 d) := fun q => by pointwise
  unfold Head.outS
  rw [e]
  exact scaleOf_at _ _ _ (fun r d => xTile_at X h d r) (fun d => mqTile_at X h d) d

theorem valueScale_at : k0_pay1223 s (ix2 0 d) = s (ix3 0 0 d) := by
  pointwise [k0_pay1223]

/-- The reference's score of a row and a key, from the blocks. -/
def rowScore (κ : Fin 16384) : EReal :=
  Model.score (block X h) (fun d κ => K (ix3 0 d κ)) (fun κ => S (ix3 0 0 κ)) sm r κ

/-- A score of a tile is the reference's score over `log 2`. -/
theorem tile_score (hS : ∀ κ, 0 ≤ S (ix3 0 0 κ) ∧ S (ix3 0 0 κ) ≠ ⊤) (kt : ℕ → Vec Ideal S1x128x128 .fp8e4m3) (j : ℕ)
    (hj : j < 13) (hk : ∀ d, kt j (ix3 0 d k) = K (ix3 0 d (Softmax.key (first i) j k))) :
    Head.score (Head.codesOf (Head.xTile X h) (Head.mqTile X h))
        (Head.scales (Head.skSpan S i) (Head.scaleOf (Head.xTile X h) (Head.mqTile X h)))
        (Head.row (Head.corr X K S i) h) kt j (ix2 r k)
      = rowScore X K S h r (Softmax.key (first i) j k) * (Scalars.c : EReal) := by
  have hx := fun r d => xTile_at X h d r
  have hm := fun d => mqTile_at X h d
  rw [score_at _ _ _ _ j hj, corr_at X K S i h k j hj,
    scales_at _ _ (Model.scale (block X h)) (fun l => scaleOf_at _ _ _ hx hm l), skSpan_at S i k j hj, named_log2e]
  simp only [codesOf_at _ _ _ hx hm, hk]
  exact Scalars.score_eq _ _ _ _ _ (hS _).1 (hS _).2 sm_nonneg (EReal.coe_ne_top _)

/-- The ramp in a row is the reference's row. -/
theorem outA_at (hS : ∀ κ, 0 ≤ S (ix3 0 0 κ) ∧ S (ix3 0 0 κ) ≠ ⊤) (hi : k0_cond2 i = 1#1) (hn : (i 1).val = n.val)
    (hA : n.val ≤ 11) :
    Head.outA X X X K S V s i hi h (ix3 0 r d)
      = Softmax.whole (rowScore X K S h r) (fun κ => V (ix3 0 κ d)) (Model.near n r) (s (ix3 0 0 d)) := by
  have hf : first i = 0 := by unfold first; omega
  unfold Head.outA
  rw [hn, ramp_at, valueScale_at]
  refine Softmax.attn_eq _ _ _ _ (first i) (first_le i) ?_ _ _ ?_ ?_
  · intro κ hκ
    unfold Model.near at hκ
    omega
  · intro j hj k
    rw [mask_at n j hj, tile_score X K S i h r k hS _ j hj (fun d => ktA_at K i d k hi j hj)]
    have hv := key_val i k j hj
    refine if_congr ?_ rfl rfl
    unfold Model.near
    omega
  · intro j hj k
    exact vtA_at V i d k hi j hj

/-- The steady part in a row is the reference's row. -/
theorem outB_at (hS : ∀ κ, 0 ≤ S (ix3 0 0 κ) ∧ S (ix3 0 0 κ) ≠ ⊤) (hi : k0_cond1 i = 1#1) (hn : (i 1).val = n.val)
    (hB : 12 ≤ n.val) :
    Head.outB X X X K S V s i hi h (ix3 0 r d)
      = Softmax.whole (rowScore X K S h r) (fun κ => V (ix3 0 κ d)) (Model.near n r) (s (ix3 0 0 d)) := by
  have hf : first i = (n.val - 12) * 128 := by unfold first; rw [hn]
  have ht := fun j hj k => tile_score X K S i h r k hS (Head.ktB K i hi) j hj (fun d => ktB_at K i d k hi j hj)
  unfold Head.outB
  rw [steady_at, valueScale_at]
  refine Softmax.attn_eq _ _ _ _ (first i) (first_le i) ?_ _ _ ?_ ?_
  · intro κ hκ
    unfold Model.near at hκ
    omega
  · intro j hj k
    have hv := key_val i k j hj
    have hr := r.isLt
    have hk := k.isLt
    unfold Softmax.shared
    beta_reduce
    by_cases h0 : j = 0
    · subst h0
      rw [if_pos rfl, ht 0 hj k]
      by_cases hc : k.val ≤ r.val
      · rw [if_pos hc, if_neg (by unfold Model.near; omega)]
      · rw [if_neg hc, if_pos (by unfold Model.near; omega)]
    · rw [if_neg h0]
      by_cases h12 : j = 12
      · subst h12
        rw [if_pos rfl, ht 12 hj k]
        exact if_congr (by unfold Model.near; omega) rfl rfl
      · rw [if_neg h12, ht j hj k, if_pos (by unfold Model.near; omega)]
  · intro j hj k
    exact vtB_at V i d k hi j hj

end Cert.HeadAt

end
-- ==== Proof.RefRun.lean ====
/-
The reference at the ideal instance: what its single grid point leaves in each output array, as one function of the argument
arrays (`G5` … `G8`), and the run of the whole program stated with those four functions (`run`).
-/
module

public import proofs.«01_k».proof.Proof.Gen.ReferenceIdeal.Frame
public import Idealize.ShloMosaic.Lib.Pipeline.Value

@[expose] public section

noncomputable section

namespace Cert.RefRun

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4x16384x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4x16384x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4x128x8x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x128x8x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x16384x1024.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 16384 + 1 * (j 1).val = (j 1).val; omega
  | ⟨2, _⟩ => show win0_0.index t (2 : Fin 3) * 1024 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S4x128x16384.Idx) : ((cfg0.win 1).blk t).view.emb j = j := by
  obtain ⟨e0, e1, e2⟩ := idx_zero1 t
  funext a; apply Fin.ext
  match a with
  | ⟨0, _⟩ => show win0_1.index t (0 : Fin 3) * 4 + 1 * (j 0).val = (j 0).val; omega
  | ⟨1, _⟩ => show win0_1.index t (1 : Fin 3) * 128 + 1 * (j 1).val = (j 1).val; omega
  | ⟨2, _⟩ => show win0_1.index t (2 : Fin 3) * 16384 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S4x1x16384.Idx) : ((cfg0.win 2).blk t).view.emb j = j := by
  obtain ⟨e0, e1, e2⟩ := idx_zero2 t
  funext a; apply Fin.ext
  match a with
  | ⟨0, _⟩ => show win0_2.index t (0 : Fin 3) * 4 + 1 * (j 0).val = (j 0).val; omega
  | ⟨1, _⟩ => show win0_2.index t (1 : Fin 3) * 1 + 1 * (j 1).val = (j 1).val; omega
  | ⟨2, _⟩ => show win0_2.index t (2 : Fin 3) * 16384 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S4x16384x128.Idx) : ((cfg0.win 3).blk t).view.emb j = j := by
  obtain ⟨e0, e1, e2⟩ := idx_zero3 t
  funext a; apply Fin.ext
  match a with
  | ⟨0, _⟩ => show win0_3.index t (0 : Fin 3) * 4 + 1 * (j 0).val = (j 0).val; omega
  | ⟨1, _⟩ => show win0_3.index t (1 : Fin 3) * 16384 + 1 * (j 1).val = (j 1).val; omega
  | ⟨2, _⟩ => show win0_3.index t (2 : Fin 3) * 128 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x1x128.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 1 + 1 * (j 1).val = (j 1).val; omega
  | ⟨2, _⟩ => show win0_4.index t (2 : Fin 3) * 128 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x16384x1024.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 16384 + 1 * (j 1).val = (j 1).val; omega
  | ⟨2, _⟩ => show win0_5.index t (2 : Fin 3) * 1024 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x16384x1024.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 16384 + 1 * (j 1).val = (j 1).val; omega
  | ⟨2, _⟩ => show win0_6.index t (2 : Fin 3) * 1024 + 1 * (j 2).val = (j 2).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S4x128x8x128.Idx) : ((cfg0.win 7).blk t).view.emb j = j := by
  obtain ⟨e0, e1, e2, e3⟩ := idx_zero7 t
  funext a; apply Fin.ext
  match a with
  | ⟨0, _⟩ => show win0_7.index t (0 : Fin 4) * 4 + 1 * (j 0).val = (j 0).val; omega
  | ⟨1, _⟩ => show win0_7.index t (1 : Fin 4) * 128 + 1 * (j 1).val = (j 1).val; omega
  | ⟨2, _⟩ => show win0_7.index t (2 : Fin 4) * 8 + 1 * (j 2).val = (j 2).val; omega
  | ⟨3, _⟩ => show win0_7.index t (3 : Fin 4) * 128 + 1 * (j 3).val = (j 3).val; omega

theorem hz8 : (![0, 0, 0, 0] : Fin 4 → Nat) = fun _ => 0 := funext fun a => by fin_cases a <;> rfl

/-- Window 8's block index at the one point is zero on every axis. -/
theorem idx_zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- An index of window 8's block is the same index of its array. -/
theorem emb8 (t : Fin cfg0.N) (j : S4x128x8x128.Idx) : ((cfg0.win 8).blk t).view.emb j = j := by
  obtain ⟨e0, e1, e2, e3⟩ := idx_zero8 t
  funext a; apply Fin.ext
  match a with
  | ⟨0, _⟩ => show win0_8.index t (0 : Fin 4) * 4 + 1 * (j 0).val = (j 0).val; omega
  | ⟨1, _⟩ => show win0_8.index t (1 : Fin 4) * 128 + 1 * (j 1).val = (j 1).val; omega
  | ⟨2, _⟩ => show win0_8.index t (2 : Fin 4) * 8 + 1 * (j 2).val = (j 2).val; omega
  | ⟨3, _⟩ => show win0_8.index t (3 : Fin 4) * 128 + 1 * (j 3).val = (j 3).val; omega

/-! ### Output window 5: the array after the run -/

/-- What the window's array ends holding: `out0_5` applied to the argument arrays in place of the input blocks (a value that the
    frame states apart, `kK_payN a…`, keeps its loads inside its own definition). -/
abbrev G5 (a0 : Vec F S4x16384x1024 .bf16) (a1 : Vec F S4x128x16384 .fp8e4m3) (a2 : Vec F S4x1x16384 .f32) (a3 : Vec F S4x16384x128 .fp8e4m3) (a4 : Vec F S4x1x128 .f32) : Vec F S4x16384x1024 .bf16 :=
  k0_pay1 (k0_pay10 (k0_pay13 a0 a1 a2 a3 a4) (k0_pay14 a0 a1 a2 a3 a4) (k0_pay7 a0) a1 a2) k0_pay11 (k0_pay12 (F := F)) a3 a4

/-- A load of the whole of a block reads the block, and the one store through the whole rectangle leaves its payload. -/
theorem out5_eq (a0 : Vec F S4x16384x1024 .bf16) (a1 : Vec F S4x128x16384 .fp8e4m3) (a2 : Vec F S4x1x16384 .f32) (a3 : Vec F S4x16384x128 .fp8e4m3) (a4 : Vec F S4x1x128 .f32) : out0_5 (F := F) a0 a1 a2 a3 a4 = G5 a0 a1 a2 a3 a4 := by
  unfold out0_5
  rw [View.canon_unit_zero hz5, View.ld_unit_zero (S := S4x16384x1024) hz0 _ a0, View.ld_unit_zero (S := S4x128x16384) hz1 _ a1, View.ld_unit_zero (S := S4x1x16384) hz2 _ a2, View.ld_unit_zero (S := S4x16384x128) hz3 _ a3, View.ld_unit_zero (S := S4x1x128) hz4 _ a4]

/-- Cutting the point's block out of `X` and reading `X` through the block's view give the same. -/
theorem cut5_eq (t : Fin cfg0.N) (X : Vec F S4x16384x1024 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S4x16384x1024.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S4x16384x1024 .bf16) (a1 : Vec F S4x128x16384 .fp8e4m3) (a2 : Vec F S4x1x16384 .f32) (a3 : Vec F S4x16384x128 .fp8e4m3) (a4 : Vec F S4x1x128 .f32) : Vec F S4x16384x1024 .fp8e4m3 :=
  k0_pay8 a0

/-- A load of the whole of a block reads the block, and the one store through the whole rectangle leaves its payload. -/
theorem out6_eq (a0 : Vec F S4x16384x1024 .bf16) (a1 : Vec F S4x128x16384 .fp8e4m3) (a2 : Vec F S4x1x16384 .f32) (a3 : Vec F S4x16384x128 .fp8e4m3) (a4 : Vec F S4x1x128 .f32) : out0_6 (F := F) a0 a1 a2 a3 a4 = G6 a0 a1 a2 a3 a4 := by
  unfold out0_6
  rw [View.canon_unit_zero hz6, View.ld_unit_zero (S := S4x16384x1024) hz0 _ a0]

/-- Cutting the point's block out of `X` and reading `X` through the block's view give the same. -/
theorem cut6_eq (t : Fin cfg0.N) (X : Vec F S4x16384x1024 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S4x16384x1024.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S4x16384x1024 .bf16) (a1 : Vec F S4x128x16384 .fp8e4m3) (a2 : Vec F S4x1x16384 .f32) (a3 : Vec F S4x16384x128 .fp8e4m3) (a4 : Vec F S4x1x128 .f32) : Vec F S4x128x8x128 .f32 :=
  k0_pay9 (k0_pay14 a0 a1 a2 a3 a4)

/-- The one store through the whole rectangle leaves its payload. -/
theorem out7_eq (a0 : Vec F S4x16384x1024 .bf16) (a1 : Vec F S4x128x16384 .fp8e4m3) (a2 : Vec F S4x1x16384 .f32) (a3 : Vec F S4x16384x128 .fp8e4m3) (a4 : Vec F S4x1x128 .f32) : out0_7 (F := F) a0 a1 a2 a3 a4 = G7 a0 a1 a2 a3 a4 := by
  unfold out0_7
  rw [View.canon_unit_zero hz7]

/-- Cutting the point's block out of `X` and reading `X` through the block's view give the same. -/
theorem cut7_eq (t : Fin cfg0.N) (X : Vec F S4x128x8x128 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S4x128x8x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ### Output window 8: the array after the run -/

/-- What the window's array ends holding: `out0_8` applied to the argument arrays in place of the input blocks (a value that the
    frame states apart, `kK_payN a…`, keeps its loads inside its own definition). -/
abbrev G8 (a0 : Vec F S4x16384x1024 .bf16) (a1 : Vec F S4x128x16384 .fp8e4m3) (a2 : Vec F S4x1x16384 .f32) (a3 : Vec F S4x16384x128 .fp8e4m3) (a4 : Vec F S4x1x128 .f32) : Vec F S4x128x8x128 .bf16 :=
  k0_pay13 a0 a1 a2 a3 a4

/-- The one store through the whole rectangle leaves its payload. -/
theorem out8_eq (a0 : Vec F S4x16384x1024 .bf16) (a1 : Vec F S4x128x16384 .fp8e4m3) (a2 : Vec F S4x1x16384 .f32) (a3 : Vec F S4x16384x128 .fp8e4m3) (a4 : Vec F S4x1x128 .f32) : out0_8 (F := F) a0 a1 a2 a3 a4 = G8 a0 a1 a2 a3 a4 := by
  unfold out0_8
  rw [View.canon_unit_zero hz8]

/-- Cutting the point's block out of `X` and reading `X` through the block's view give the same. -/
theorem cut8_eq (t : Fin cfg0.N) (X : Vec F S4x128x8x128 .bf16) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4)) := by
  show (cfg0.win 8).cut (grid0.coords t) ((dats m 0 c).after 8 t) = _
  rw [after0_8, out8_eq, iblk0_eq, iblk1_eq, iblk2_eq, iblk3_eq, iblk4_eq]
  exact cut8_eq t _

/-- Every index of the array is in the point's block. -/
theorem covered8 (i : S4x128x8x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 8 (G8 (V m c main_arg0) (V m c main_arg1) (V m c main_arg2) (V m c main_arg3) (V m c main_arg4)) (fun t _ => flushed8_eq m c t) covered8).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = G8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c⟩)
    (run_main m ρ)

end Cert.RefRun

end
-- ==== Proof.RefAt.lean ====
/- The reference's values at one index of its arrays. -/
module

public import proofs.«01_k».proof.Proof.RefRun
public import proofs.«01_k».proof.Proof.Model
public import Idealize.ShloMosaic.Lib.Pointwise

@[expose] public section

set_option maxRecDepth 16384

noncomputable section

namespace Cert.RefAt

open Idealize.ShloMosaic Idealize.SL.Sem
open Cert.ReferenceIdeal Cert.ReferenceIdeal.Gen
open Cert.Model (pos lane)

variable (X : Vec Ideal S4x16384x1024 .bf16) (K : Vec Ideal S4x128x16384 .fp8e4m3) (S : Vec Ideal S4x1x16384 .f32)
  (W : Vec Ideal S4x16384x128 .fp8e4m3) (s : Vec Ideal S4x1x128 .f32)
  (b : Fin 4) (n r : Fin 128) (h : Fin 8) (d : Fin 128) (κ : Fin 16384)

/-- The queries of one head of one block. -/
def block (X : Vec Ideal S4x16384x1024 .bf16) (b : Fin 4) (n : Fin 128) (h : Fin 8) (r d : Fin 128) : EReal :=
  X (ix3 b (pos n r) (lane h d))

theorem pay2_at : k0_pay2 X (ix5 b n r h d) = block X b n h r d := by
  pointwise [k0_pay2, block, pos, lane]

theorem pay3_at : k0_pay3 X (ix4 b n h d) = Model.mean (block X b n h) d := by
  rw [← Model.mean_ref]
  simp only [← pay2_at]
  pointwise [k0_pay3]

theorem pay4_at : k0_pay4 X (ix5 b n r h d) = Model.ctr (block X b n h) r d := by
  unfold Model.ctr
  rw [← pay2_at, ← pay3_at]
  pointwise [k0_pay4]

theorem pay5_at : k0_pay5 X (ix5 b n 0 h 0) = Exponent.refExpo (Model.ratio (block X b n h)) := by
  have e : Model.ratio (block X b n h)
      = (Finset.univ.sup fun r => Finset.univ.sup fun d => max (k0_pay4 X (ix5 b n r h d)) (-k0_pay4 X (ix5 b n r h d)))
        * Ideal.ofBits .f32 0x3B124925#32 := by
    unfold Model.ratio Model.top
    rw [Finset.sup_comm]
    simp only [pay4_at]
  rw [e]
  pointwise [k0_pay5]
  rw [Scalars.ofBits_bot]
  rfl

variable (hX : Model.Bounded (block X b n h))

include hX in
theorem pay6_at : k0_pay6 X (ix5 b n 0 h 0) = Model.scale (block X b n h) := by
  rw [← Model.scale_ref hX, ← pay5_at]
  pointwise [k0_pay6]
  rfl

include hX in
theorem pay7_at : k0_pay7 X (ix5 b n r h d) = Model.quant (block X b n h) r d := by
  unfold Model.quant
  rw [← Model.inverse_ref hX, ← pay5_at, ← pay4_at]
  pointwise [k0_pay7]
  rfl

theorem pay8_at : k0_pay8 X (ix3 b (pos n r) (lane h d)) = k0_pay7 X (ix5 b n r h d) := by
  pointwise [k0_pay8, pos, lane]

theorem pay9_at (v : FVec Ideal S4x128x1x8x1 .f32) : k0_pay9 v (ix4 b n h d) = v (ix5 b n 0 h 0) := by
  pointwise [k0_pay9]

theorem pay10_at (u : FVec Ideal S4x128x8x128 .bf16) (v : FVec Ideal S4x128x1x8x1 .f32) (q : FVec Ideal S4x128x128x8x128 .fp8e4m3) :
    k0_pay10 u v q K S (ix5 b n r h κ)
      = S (ix3 b 0 κ) * (v (ix5 b n 0 h 0) * (∑ d, q (ix5 b n r h d) * K (ix3 b d κ)) + ∑ d, u (ix4 b n h d) * K (ix3 b d κ))
        * Named.named ReferenceIdeal.κ "sm_scale" 0x3DB504F3#32 := by
  pointwise [k0_pay10]

theorem word_near : (IntOp.andi
      (IntOp.cmpi .sle (BitVec.ofNat 32 κ.val) (IntOp.addi (IntOp.muli (BitVec.ofNat 32 n.val) 128#32) (BitVec.ofNat 32 r.val)))
      (IntOp.cmpi .sgt (BitVec.ofNat 32 κ.val)
        (IntOp.subi (IntOp.addi (IntOp.muli (BitVec.ofNat 32 n.val) 128#32) (BitVec.ofNat 32 r.val)) 1536#32)) = 1#1)
    ↔ Model.near n r κ := by
  have hn := n.isLt
  have hr := r.isLt
  have hκ := κ.isLt
  unfold Model.near
  rw [IntOp.andi_eq_one, IntOp.cmpi_sle, IntOp.cmpi_sgt]
  simp only [IntOp.addi, IntOp.muli, IntOp.subi, BitVec.toInt_eq_toNat_bmod, BitVec.toNat_add, BitVec.toNat_mul, BitVec.toNat_sub,
    BitVec.toNat_ofNat, Int.bmod]
  omega

theorem pay11_at : k0_pay11 (ix5 b n r h κ) = 1#1 ↔ Model.near n r κ := by
  rw [← word_near]
  pointwise [k0_pay11]

/-! ## The four arrays -/

/-- A block loaded whole is the block. -/
theorem ld_whole (X : Vec Ideal S4x16384x1024 .bf16) : View.ld X r0_0 = X :=
  View.ld_unit_zero (S := S4x16384x1024) RefRun.hz0 _ X

include hX in
theorem codes_at : RefRun.G6 X K S W s (ix3 b (pos n r) (lane h d)) = Model.quant (block X b n h) r d :=
  (pay8_at X b n r h d).trans (pay7_at X b n r h d hX)

include hX in
theorem scale_at : RefRun.G7 X K S W s (ix4 b n h d) = Model.scale (block X b n h) := by
  refine (pay9_at b n h d _).trans ?_
  unfold k0_pay14
  rw [ld_whole]
  exact pay6_at X b n h hX

theorem mean_at : RefRun.G8 X K S W s (ix4 b n h d) = Model.mean (block X b n h) d := by
  show k0_pay13 X K S W s (ix4 b n h d) = _
  unfold k0_pay13
  rw [ld_whole]
  exact pay3_at X b n h d

end Cert.RefAt

end
-- ==== Proof.RefOut.lean ====
/- The reference's first result at one index. -/
module

public import proofs.«01_k».proof.Proof.RefAt
public import Idealize.ShloMosaic.Lib.Pointwise

@[expose] public section

set_option maxRecDepth 16384

noncomputable section

namespace Cert.RefAt

open Idealize.ShloMosaic Idealize.SL.Sem
open Cert.ReferenceIdeal Cert.ReferenceIdeal.Gen
open Cert.Model (pos lane)

variable (X : Vec Ideal S4x16384x1024 .bf16) (K : Vec Ideal S4x128x16384 .fp8e4m3) (S : Vec Ideal S4x1x16384 .f32)
  (W : Vec Ideal S4x16384x128 .fp8e4m3) (s : Vec Ideal S4x1x128 .f32)
  (b : Fin 4) (n r : Fin 128) (h : Fin 8) (d : Fin 128) (κ : Fin 16384)

/-- The exponentials of the scores that count, each less the largest of its row. -/
def weights (z : FVec Ideal S4x128x128x8x16384 .f32) (w : IVec S4x128x128x8x16384 1) : FVec Ideal S4x128x128x8x16384 .f32 :=
  select w
    (exp (subf z (broadcastTo S4x128x128x8x16384
      (shapeCast S4x128x128x8x1
        (multiReduction .maximumf [4] S4x128x128x8 z 0xFF800000#32 reduces_S4x128x128x8x16384_S4x128x128x8 (.inl rfl) rfl)
        shapeCasts_S4x128x128x8_S4x128x128x8x1)
      broadcasts_S4x128x128x8x1_S4x128x128x8x16384)))
    (broadcast S4x128x128x8x16384 (Scalar.ofBits .f32 0x00000000#32))

/-- The codes of the weights. -/
def weightCodes (e : FVec Ideal S4x128x128x8x16384 .f32) : FVec Ideal S4x128x128x8x16384 .fp8e4m3 :=
  truncf .fp8e4m3
    (minimumf (broadcast S4x128x128x8x16384 (Scalar.ofBits .f32 0x43E00000#32))
      (maximumf (broadcast S4x128x128x8x16384 (Scalar.ofBits .f32 0x00000000#32))
        (mulf e (broadcast S4x128x128x8x16384 (Scalar.ofBits .f32 0x43800000#32)))))
    bitsLt_fp8e4m3_f32

/-- The sum of the weights. -/
def total (e : FVec Ideal S4x128x128x8x16384 .f32) : FVec Ideal S4x128x128x8 .f32 :=
  multiReduction .add [4] S4x128x128x8 e 0x00000000#32 reduces_S4x128x128x8x16384_S4x128x128x8 (.inl rfl) rfl

/-- The codes of the weights against the codes of the values. -/
def weighted (q : FVec Ideal S4x128x128x8x16384 .fp8e4m3) (v : FVec Ideal S4x16384x128 .fp8e4m3) :
    FVec Ideal S4x128x128x8x128 .f32 :=
  shapeCast S4x128x128x8x128
    (matmul dot_S4x131072x16384_S4x16384x128_S4x131072x128_2_1_1_2_0_0 none
      (shapeCast S4x131072x16384 q shapeCasts_S4x128x128x8x16384_S4x131072x16384) v
      (constant S4x131072x128 .f32 0x00000000#32))
    shapeCasts_S4x131072x128_S4x128x128x8x128

/-- The weighted mean of the values. -/
def meanOf (o : FVec Ideal S4x128x128x8x128 .f32) (l : FVec Ideal S4x128x128x8 .f32) (s : FVec Ideal S4x1x128 .f32) :
    FVec Ideal S4x16384x1024 .bf16 :=
  shapeCast S4x16384x1024
    (truncf .bf16
      (divf
        (mulf (mulf o (broadcast S4x128x128x8x128 (Scalar.ofBits .f32 0x3B800000#32)))
          (broadcastTo S4x128x128x8x128 (shapeCast S4x1x1x1x128 s shapeCasts_S4x1x128_S4x1x1x1x128)
            broadcasts_S4x1x1x1x128_S4x128x128x8x128))
        (broadcastTo S4x128x128x8x128 (shapeCast S4x128x128x8x1 l shapeCasts_S4x128x128x8_S4x128x128x8x1)
          broadcasts_S4x128x128x8x1_S4x128x128x8x128))
      bitsLt_bf16_f32)
    shapeCasts_S4x128x128x8x128_S4x16384x1024

theorem pay1_eq (v x : FVec Ideal S4x128x128x8x16384 .f32) (w : IVec S4x128x128x8x16384 1) :
    k0_pay1 v w x W s
      = meanOf (weighted (weightCodes (weights (select w v x) w)) W) (total (weights (select w v x) w)) s := rfl

theorem weights_at (z : FVec Ideal S4x128x128x8x16384 .f32) (w : IVec S4x128x128x8x16384 1) :
    weights z w (ix5 b n r h κ)
      = Scalar.select (w (ix5 b n r h κ))
          (Ideal.exp ((z (ix5 b n r h κ) : EReal)
            - Finset.fold max (Ideal.ofBits .f32 0xFF800000#32 : EReal) (fun x : Fin 16384 => (z (ix5 b n r h x) : EReal))
                Finset.univ)) (0 : EReal) := by
  pointwise [weights]

theorem weightCodes_at (e : FVec Ideal S4x128x128x8x16384 .f32) :
    weightCodes e (ix5 b n r h κ)
      = min (Ideal.ofBits .f32 0x43E00000#32) (max (0 : EReal) ((e (ix5 b n r h κ) : EReal) * Ideal.ofBits .f32 0x43800000#32)) := by
  pointwise [weightCodes]

theorem total_at (e : FVec Ideal S4x128x128x8x16384 .f32) : total e (ix4 b n r h) = ∑ x : Fin 16384, (e (ix5 b n r h x) : EReal) := by
  pointwise [total]

theorem weighted_at (q : FVec Ideal S4x128x128x8x16384 .fp8e4m3) (v : FVec Ideal S4x16384x128 .fp8e4m3) :
    weighted q v (ix5 b n r h d) = ∑ x : Fin 16384, (q (ix5 b n r h x) : EReal) * (v (ix3 b x d) : EReal) := by
  pointwise [weighted]

theorem meanOf_at (o : FVec Ideal S4x128x128x8x128 .f32) (l : FVec Ideal S4x128x128x8 .f32) :
    meanOf o l s (ix3 b (pos n r) (lane h d))
      = Ideal.div ((o (ix5 b n r h d) : EReal) * Ideal.ofBits .f32 0x3B800000#32 * (s (ix3 b 0 d) : EReal)) (l (ix4 b n r h)) := by
  pointwise [meanOf, pos, lane]

theorem masked_at (v : FVec Ideal S4x128x128x8x16384 .f32) :
    select k0_pay11 v (k0_pay12 (F := Ideal)) (ix5 b n r h κ)
      = Scalar.select (k0_pay11 (ix5 b n r h κ)) (v (ix5 b n r h κ)) (Ideal.ofBits .f32 0xFF800000#32) := rfl

theorem pay1_at (v : FVec Ideal S4x128x128x8x16384 .f32) :
    k0_pay1 v k0_pay11 (k0_pay12 (F := Ideal)) W s (ix3 b (pos n r) (lane h d))
      = Softmax.whole (fun κ => v (ix5 b n r h κ)) (fun κ => W (ix3 b κ d)) (Model.near n r) (s (ix3 b 0 d)) := by
  rw [pay1_eq, meanOf_at, weighted_at, total_at]
  simp only [weightCodes_at, weights_at, masked_at]
  have e := Softmax.whole_word (fun κ => k0_pay11 (ix5 b n r h κ)) (fun κ => v (ix5 b n r h κ)) (fun κ => W (ix3 b κ d))
    (Model.near n r) (s (ix3 b 0 d)) fun κ => pay11_at b n r h κ
  beta_reduce at e
  exact e

variable (hX : Model.Bounded (block X b n h))

include hX in
theorem out_at : RefRun.G5 X K S W s (ix3 b (pos n r) (lane h d))
    = Softmax.whole
        (Model.score (block X b n h) (fun d κ => K (ix3 b d κ)) (fun κ => S (ix3 b 0 κ))
          (Named.named ReferenceIdeal.κ "sm_scale" 0x3DB504F3#32 : Ideal .f32) r)
        (fun κ => W (ix3 b κ d)) (Model.near n r) (s (ix3 b 0 d)) := by
  refine (pay1_at W s b n r h d _).trans ?_
  congr 1
  funext κ
  rw [pay10_at]
  unfold k0_pay13 k0_pay14
  rw [ld_whole]
  simp only [pay7_at X b n r h _ hX, pay3_at, pay6_at X b n h hX]
  rfl

end Cert.RefAt

end
-- ==== Proof.Equal.lean ====
/- The kernel's four results are the reference's, block by block. -/
module

public import proofs.«01_k».proof.Proof.Blocks
public import proofs.«01_k».proof.Proof.PiecesA
public import proofs.«01_k».proof.Proof.PiecesB
public import proofs.«01_k».proof.Proof.Rows
public import proofs.«01_k».proof.Proof.RefOut
public import proofs.«01_k».proof.Proof.Pre
public import Idealize.ShloMosaic.Lib.Claim

@[expose] public section

set_option maxRecDepth 16384

noncomputable section

namespace Cert.Equal

open Idealize.ShloMosaic Idealize.ShloMosaic.TcCoe Idealize.SL.Sem
open Cert.KernelIdeal Cert.KernelIdeal.Gen Cert.Blocks Cert.Pieces
open Cert.Model (pos lane)

variable (m : (ℓ : Loc nD τ sig) → Buf (Elt Ideal) ℓ) (c : Dev nD) (t : Fin cfg0.N)

/-- The queries as launched. -/
abbrev aX : Vec Ideal S4x16384x1024 .bf16 := m ((c : Thread nD τ).loc main_arg0)
/-- The key codes as launched. -/
abbrev aK : Vec Ideal S4x128x16384 .fp8e4m3 := m ((c : Thread nD τ).loc main_arg1)
/-- The key scales as launched. -/
abbrev aS : Vec Ideal S4x1x16384 .f32 := m ((c : Thread nD τ).loc main_arg2)
/-- The value codes as launched. -/
abbrev aV : Vec Ideal S4x16384x128 .fp8e4m3 := m ((c : Thread nD τ).loc main_arg3)
/-- The value scales as launched. -/
abbrev aU : Vec Ideal S4x1x128 .f32 := m ((c : Thread nD τ).loc main_arg4)

/-- The queries of one head in a grid point's block are those of the reference's block. -/
theorem block_eq (h : Fin 8) : HeadAt.block (iblk m c 0 t) h = RefAt.block (aX m c) (seqOf t) (blkOf t) h := by
  funext r d
  exact (iblk0_at m c t r (lane h d)).trans (congrFun (V_main_arg0 m c) _)

variable (hX : ∀ z, ∃ a : ℝ, aX m c z = (a : EReal) ∧ |a| ≤ 2 ^ 128) (hS : ∀ z, 0 ≤ aS m c z ∧ aS m c z ≠ ⊤)

include hX in
theorem bounded (b : Fin 4) (n : Fin 128) (h : Fin 8) : Model.Bounded (RefAt.block (aX m c) b n h) := fun _ _ => hX _

theorem keyScale (κ : Fin 16384) : iblk m c 2 t (ix3 0 0 κ) = aS m c (ix3 (seqOf t) 0 κ) :=
  (iblk2_at m c t κ).trans (congrFun (V_main_arg2 m c) _)

theorem row_eq (h : Fin 8) (r : Fin 128) : HeadAt.rowScore (iblk m c 0 t) (iblk m c 1 t) (iblk m c 2 t) h r
    = Model.score (RefAt.block (aX m c) (seqOf t) (blkOf t) h) (fun d κ => aK m c (ix3 (seqOf t) d κ))
        (fun κ => aS m c (ix3 (seqOf t) 0 κ)) (Named.named ReferenceIdeal.κ "sm_scale" 0x3DB504F3#32 : Ideal .f32) r := by
  have hk : (fun (d : Fin 128) (κ : Fin 16384) => iblk m c 1 t (ix3 0 d κ)) = fun d κ => aK m c (ix3 (seqOf t) d κ) :=
    funext fun d => funext fun κ => (iblk1_at m c t d κ).trans (congrFun (V_main_arg1 m c) _)
  have hs : (fun κ : Fin 16384 => iblk m c 2 t (ix3 0 0 κ)) = fun κ => aS m c (ix3 (seqOf t) 0 κ) :=
    funext fun κ => keyScale m c t κ
  rw [HeadAt.named_sm, ← block_eq, ← hk, ← hs]
  rfl

theorem value_eq (d : Fin 128) : (fun κ : Fin 16384 => iblk m c 3 t (ix3 0 κ d)) = fun κ => aV m c (ix3 (seqOf t) κ d) :=
  funext fun κ => (iblk3_at m c t κ d).trans (congrFun (V_main_arg3 m c) _)

theorem valueScale_eq (d : Fin 128) : iblk m c 4 t (ix3 0 0 d) = aU m c (ix3 (seqOf t) 0 d) :=
  (iblk4_at m c t d).trans (congrFun (V_main_arg4 m c) _)

include hX in
theorem ref5 (h : Fin 8) (r d : Fin 128) :
    RefRun.G5 (aX m c) (aK m c) (aS m c) (aV m c) (aU m c) (ix3 (seqOf t) (pos (blkOf t) r) (lane h d))
      = Softmax.whole (HeadAt.rowScore (iblk m c 0 t) (iblk m c 1 t) (iblk m c 2 t) h r)
          (fun κ : Fin 16384 => iblk m c 3 t (ix3 0 κ d)) (Model.near (blkOf t) r) (iblk m c 4 t (ix3 0 0 d)) := by
  rw [row_eq, value_eq, valueScale_eq]
  exact RefAt.out_at _ _ _ _ _ _ _ _ _ _ (bounded m c hX (seqOf t) (blkOf t) h)

include hX in
theorem ref6 (h : Fin 8) (r d : Fin 128) :
    RefRun.G6 (aX m c) (aK m c) (aS m c) (aV m c) (aU m c) (ix3 (seqOf t) (pos (blkOf t) r) (lane h d))
      = Model.quant (HeadAt.block (iblk m c 0 t) h) r d := by
  rw [block_eq]
  exact RefAt.codes_at _ _ _ _ _ _ _ _ _ _ (bounded m c hX (seqOf t) (blkOf t) h)

include hX in
theorem ref7 (h : Fin 8) (d : Fin 128) :
    RefRun.G7 (aX m c) (aK m c) (aS m c) (aV m c) (aU m c) (ix4 (seqOf t) (blkOf t) h d)
      = Model.scale (HeadAt.block (iblk m c 0 t) h) := by
  rw [block_eq]
  exact RefAt.scale_at _ _ _ _ _ _ _ _ _ (bounded m c hX (seqOf t) (blkOf t) h)

theorem ref8 (h : Fin 8) (d : Fin 128) :
    RefRun.G8 (aX m c) (aK m c) (aS m c) (aV m c) (aU m c) (ix4 (seqOf t) (blkOf t) h d)
      = Model.mean (HeadAt.block (iblk m c 0 t) h) d := by
  rw [block_eq]
  exact RefAt.mean_at _ _ _ _ _ _ _ _ _

include hX hS in
theorem out5 (y : S1x128x1024.Idx) :
    (outsAt0 m c t.val t.isLt).1 y = RefRun.G5 (aX m c) (aK m c) (aS m c) (aV m c) (aU m c) (wide t y) := by
  have hS' : ∀ κ : Fin 16384, (0 : EReal) ≤ iblk m c 2 t (ix3 0 0 κ) ∧ iblk m c 2 t (ix3 0 0 κ) ≠ (⊤ : EReal) := fun κ => by
    rw [keyScale]; exact hS _
  refine Eq.trans ?_ (ref5 m c t hX (head y) (y 1) ((inside y) 2)).symm
  by_cases hA : t.val % 128 ≤ 11
  · rw [out5_A m c t (by omega) hA]
    unfold rawA
    rw [held_eq, loaded_eq]
    exact HeadAt.outA_at _ _ _ _ _ _ (blkOf t) _ _ _ hS' _ (coords_1 t) hA
  · rw [out5_B m c t (by omega) hA]
    unfold rawB
    rw [held_eq, loaded_eq]
    exact HeadAt.outB_at _ _ _ _ _ _ (blkOf t) _ _ _ hS' _ (coords_1 t) (by show 12 ≤ t.val % 128; omega)

include hX in
theorem out6 (y : S1x128x1024.Idx) :
    (outsAt0 m c t.val t.isLt).2.1 y = RefRun.G6 (aX m c) (aK m c) (aS m c) (aV m c) (aU m c) (wide t y) := by
  refine Eq.trans ?_ (ref6 m c t hX (head y) (y 1) ((inside y) 2)).symm
  have e : (outsAt0 m c t.val t.isLt).2.1 y = Head.outQ (iblk m c 0 t) (head y) (inside y) := by
    by_cases hA : t.val % 128 ≤ 11
    · exact out6_A m c t (by omega) hA y
    · exact out6_B m c t (by omega) hA y
  exact e.trans (HeadAt.outQ_at _ _ _ _)

include hX in
theorem out7 (y : S1x1x8x128.Idx) :
    (outsAt0 m c t.val t.isLt).2.2.1 y = RefRun.G7 (aX m c) (aK m c) (aS m c) (aV m c) (aU m c) (narrow t y) := by
  refine Eq.trans ?_ (ref7 m c t hX (y 2) (y 3)).symm
  have e : (outsAt0 m c t.val t.isLt).2.2.1 y = Head.outS (iblk m c 0 t) (y 2) (ix4 0 0 0 (y 3)) := by
    by_cases hA : t.val % 128 ≤ 11
    · exact out7_A m c t (by omega) hA y
    · exact out7_B m c t (by omega) hA y
  exact e.trans (HeadAt.outS_at _ _ _)

theorem out8 (y : S1x1x8x128.Idx) :
    (outsAt0 m c t.val t.isLt).2.2.2 y = RefRun.G8 (aX m c) (aK m c) (aS m c) (aV m c) (aU m c) (narrow t y) := by
  refine Eq.trans ?_ (ref8 m c t (y 2) (y 3)).symm
  have e : (outsAt0 m c t.val t.isLt).2.2.2 y = k0_pay1226 (iblk m c 0 t) y := by
    by_cases hA : t.val % 128 ≤ 11
    · exact out8_A m c t (by omega) hA y
    · exact out8_B m c t (by omega) hA y
  have hy : y = ix4 0 0 (y 2) (y 3) := by
    have h0 : (y 0).val < 1 := (y 0).isLt
    have h1 : (y 1).val < 1 := (y 1).isLt
    funext a
    refine Fin.ext ?_
    match a with
    | ⟨0, _⟩ => show (y 0).val = 0; omega
    | ⟨1, _⟩ => show (y 1).val = 0; omega
    | ⟨2, _⟩ => rfl
    | ⟨3, _⟩ => rfl
  refine e.trans ((congrArg _ hy).trans ?_)
  exact HeadAt.pay1226_at _ _ _

/-- At the ideal instance the kernel's four results are the reference's. -/
theorem algebraic : Cert.algebraic_KernelIdeal_ReferenceIdeal_pre_in_range := by
  intro m g m' g' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.KernelIdeal.Value.run_blocks m g,
    θ_run_mono (Cert.RefRun.run m' g') fun r hr c => ?_⟩
  obtain ⟨r5, r6, r7, r8, kept⟩ := hr c
  obtain ⟨hX, hS⟩ := Cert.Pre_in_range.spec _ _ _ _ _ (fun i => i.elim0) (congrFun (hpre c) _)
  obtain ⟨a0, a1, a2, a3, a4⟩ := hagree c
  rw [a0, a1, a2, a3, a4] at r5 r6 r7 r8
  exact ⟨r5.trans (final5 m c _ fun t y => out5 m c t hX hS y).symm, r6.trans (final6 m c _ fun t y => out6 m c t hX y).symm,
    r7.trans (final7 m c _ fun t y => out7 m c t hX y).symm, r8.trans (final8 m c _ fun t y => out8 m c t y).symm, kept⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Frames
public import proofs.«01_k».proof.Proof.Gen.KernelIdeal.Value
public import proofs.«01_k».proof.Proof.Pre
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Pre_in_range.facts, Frames.kernel, Frames.kernelIdeal, fun m ρ _ => Cert.KernelIdeal.Gen.frame m ρ, Frames.referenceIdeal, fun m ρ _ => Cert.ReferenceIdeal.Gen.frame m ρ, Frames.reference, Frames.preservesKernel, Frames.preservesReference, Cert.Equal.algebraic⟩

end Cert.Proof

end
